-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_below_infinity [hPre_below_infinity : Cert.Pre_below_infinity.Facts] (m : (ℓ : Loc Cert.BiasIdeal.nD Cert.BiasIdeal.τ Cert.BiasIdeal.sig) → Buf (Elt Ideal) ℓ) : Prop :=
  ∀ c : Dev Cert.BiasIdeal.nD,
    (Cert.Pre_below_infinity.fn (F := Ideal) (m ((c.tc : Thread Cert.BiasIdeal.nD Cert.BiasIdeal.τ).loc Cert.BiasIdeal.main_arg0))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_below_infinity [hPre_below_infinity : Cert.Pre_below_infinity.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_below_infinity.fn (F := Ideal) (m ((c.tc : Thread Cert.BiasRefIdeal.nD Cert.BiasRefIdeal.τ).loc Cert.BiasRefIdeal.main_arg0))) = (fun _ => 1#1)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8)
      ∧ r.2.mem ((c.tc : Thread Cert.Ffn1.nD Cert.Ffn1.τ).loc Cert.Ffn1.main_arg9) = m ((c.tc : Thread Cert.Ffn1.nD Cert.Ffn1.τ).loc Cert.Ffn1.main_arg9)
      ∧ r.2.mem ((c.tc : Thread Cert.Ffn1.nD Cert.Ffn1.τ).loc Cert.Ffn1.main_arg10) = m ((c.tc : Thread Cert.Ffn1.nD Cert.Ffn1.τ).loc Cert.Ffn1.main_arg10))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9)
      ∧ r.2.mem ((c.tc : Thread Cert.Ffn1Ideal.nD Cert.Ffn1Ideal.τ).loc Cert.Ffn1Ideal.main_arg10) = m ((c.tc : Thread Cert.Ffn1Ideal.nD Cert.Ffn1Ideal.τ).loc Cert.Ffn1Ideal.main_arg10))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6)
      ∧ r.2.mem ((c.tc : Thread Cert.Ffn1RefIdeal.nD Cert.Ffn1RefIdeal.τ).loc Cert.Ffn1RefIdeal.main_arg7) = m ((c.tc : Thread Cert.Ffn1RefIdeal.nD Cert.Ffn1RefIdeal.τ).loc Cert.Ffn1RefIdeal.main_arg7)
      ∧ r.2.mem ((c.tc : Thread Cert.Ffn1RefIdeal.nD Cert.Ffn1RefIdeal.τ).loc Cert.Ffn1RefIdeal.main_arg8) = m ((c.tc : Thread Cert.Ffn1RefIdeal.nD Cert.Ffn1RefIdeal.τ).loc Cert.Ffn1RefIdeal.main_arg8)
      ∧ r.2.mem ((c.tc : Thread Cert.Ffn1RefIdeal.nD Cert.Ffn1RefIdeal.τ).loc Cert.Ffn1RefIdeal.main_arg9) = m ((c.tc : Thread Cert.Ffn1RefIdeal.nD Cert.Ffn1RefIdeal.τ).loc Cert.Ffn1RefIdeal.main_arg9)
      ∧ r.2.mem ((c.tc : Thread Cert.Ffn1RefIdeal.nD Cert.Ffn1RefIdeal.τ).loc Cert.Ffn1RefIdeal.main_arg10) = m ((c.tc : Thread Cert.Ffn1RefIdeal.nD Cert.Ffn1RefIdeal.τ).loc Cert.Ffn1RefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasIdeal_pre_below_infinity [hBiasIdeal : Cert.BiasIdeal.Facts] [hPre_below_infinity : Cert.Pre_below_infinity.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_below_infinity m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasRefIdeal_pre_below_infinity [hBiasRefIdeal : Cert.BiasRefIdeal.Facts] [hPre_below_infinity : Cert.Pre_below_infinity.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_below_infinity m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v2_0)) (v1 : (c : Dev Cert.AdaIdeal.nD) → Buf (Elt Ideal) ((c.tc : Thread Cert.AdaIdeal.nD Cert.AdaIdeal.τ).loc Cert.AdaIdeal.main_v2_1)) (v2 : (c : Dev Cert.AdaIdeal.nD) → Buf (Elt Ideal) ((c.tc : Thread Cert.AdaIdeal.nD Cert.AdaIdeal.τ).loc Cert.AdaIdeal.main_v2_2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2_0) = v0 c
          ∧ r.2.mem ((c.tc : Thread Cert.AdaIdeal.nD Cert.AdaIdeal.τ).loc Cert.AdaIdeal.main_v2_1) = v1 c
          ∧ r.2.mem ((c.tc : Thread Cert.AdaIdeal.nD Cert.AdaIdeal.τ).loc Cert.AdaIdeal.main_v2_2) = v2 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_v8) = v1 c
          ∧ r.2.mem ((c.tc : Thread Cert.AdaRefIdeal.nD Cert.AdaRefIdeal.τ).loc Cert.AdaRefIdeal.main_v10) = v2 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)
      ∧ m' ((c.tc : Thread Cert.Ffn1RefIdeal.nD Cert.Ffn1RefIdeal.τ).loc Cert.Ffn1RefIdeal.main_arg7) = m ((c.tc : Thread Cert.Ffn1Ideal.nD Cert.Ffn1Ideal.τ).loc Cert.Ffn1Ideal.main_arg7)
      ∧ m' ((c.tc : Thread Cert.Ffn1RefIdeal.nD Cert.Ffn1RefIdeal.τ).loc Cert.Ffn1RefIdeal.main_arg8) = m ((c.tc : Thread Cert.Ffn1Ideal.nD Cert.Ffn1Ideal.τ).loc Cert.Ffn1Ideal.main_arg8)
      ∧ m' ((c.tc : Thread Cert.Ffn1RefIdeal.nD Cert.Ffn1RefIdeal.τ).loc Cert.Ffn1RefIdeal.main_arg9) = m ((c.tc : Thread Cert.Ffn1Ideal.nD Cert.Ffn1Ideal.τ).loc Cert.Ffn1Ideal.main_arg9)
      ∧ m' ((c.tc : Thread Cert.Ffn1RefIdeal.nD Cert.Ffn1RefIdeal.τ).loc Cert.Ffn1RefIdeal.main_arg10) = m ((c.tc : Thread Cert.Ffn1Ideal.nD Cert.Ffn1Ideal.τ).loc Cert.Ffn1Ideal.main_arg10)) →
    ∃ (v0 : (c : Dev Cert.Ffn1Ideal.nD) → Buf (Elt Ideal) ((c.tc : Thread Cert.Ffn1Ideal.nD Cert.Ffn1Ideal.τ).loc Cert.Ffn1Ideal.main_v2_0)) (v1 : (c : Dev Cert.Ffn1Ideal.nD) → Buf (Elt Ideal) ((c.tc : Thread Cert.Ffn1Ideal.nD Cert.Ffn1Ideal.τ).loc Cert.Ffn1Ideal.main_v2_1)) (v2 : (c : Dev Cert.Ffn1Ideal.nD) → Buf (Elt Ideal) ((c.tc : Thread Cert.Ffn1Ideal.nD Cert.Ffn1Ideal.τ).loc Cert.Ffn1Ideal.main_v2_2)) (v3 : (c : Dev Cert.Ffn1Ideal.nD) → Buf (Elt Ideal) ((c.tc : Thread Cert.Ffn1Ideal.nD Cert.Ffn1Ideal.τ).loc Cert.Ffn1Ideal.main_v2_3)) (v4 : (c : Dev Cert.Ffn1Ideal.nD) → Buf (Elt Ideal) ((c.tc : Thread Cert.Ffn1Ideal.nD Cert.Ffn1Ideal.τ).loc Cert.Ffn1Ideal.main_v2_4)) (v5 : (c : Dev Cert.Ffn1Ideal.nD) → Buf (Elt Ideal) ((c.tc : Thread Cert.Ffn1Ideal.nD Cert.Ffn1Ideal.τ).loc Cert.Ffn1Ideal.main_v2_5)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v2_0) = v0 c
          ∧ r.2.mem ((c.tc : Thread Cert.Ffn1Ideal.nD Cert.Ffn1Ideal.τ).loc Cert.Ffn1Ideal.main_v2_1) = v1 c
          ∧ r.2.mem ((c.tc : Thread Cert.Ffn1Ideal.nD Cert.Ffn1Ideal.τ).loc Cert.Ffn1Ideal.main_v2_2) = v2 c
          ∧ r.2.mem ((c.tc : Thread Cert.Ffn1Ideal.nD Cert.Ffn1Ideal.τ).loc Cert.Ffn1Ideal.main_v2_3) = v3 c
          ∧ r.2.mem ((c.tc : Thread Cert.Ffn1Ideal.nD Cert.Ffn1Ideal.τ).loc Cert.Ffn1Ideal.main_v2_4) = v4 c
          ∧ r.2.mem ((c.tc : Thread Cert.Ffn1Ideal.nD Cert.Ffn1Ideal.τ).loc Cert.Ffn1Ideal.main_v2_5) = v5 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
          ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9)
          ∧ r.2.mem ((c.tc : Thread Cert.Ffn1Ideal.nD Cert.Ffn1Ideal.τ).loc Cert.Ffn1Ideal.main_arg10) = m ((c.tc : Thread Cert.Ffn1Ideal.nD Cert.Ffn1Ideal.τ).loc Cert.Ffn1Ideal.main_arg10))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v58) = v0 c
          ∧ r.2.mem ((c.tc : Thread Cert.Ffn1RefIdeal.nD Cert.Ffn1RefIdeal.τ).loc Cert.Ffn1RefIdeal.main_v60) = v1 c
          ∧ r.2.mem ((c.tc : Thread Cert.Ffn1RefIdeal.nD Cert.Ffn1RefIdeal.τ).loc Cert.Ffn1RefIdeal.main_v62) = v2 c
          ∧ r.2.mem ((c.tc : Thread Cert.Ffn1RefIdeal.nD Cert.Ffn1RefIdeal.τ).loc Cert.Ffn1RefIdeal.main_v64) = v3 c
          ∧ r.2.mem ((c.tc : Thread Cert.Ffn1RefIdeal.nD Cert.Ffn1RefIdeal.τ).loc Cert.Ffn1RefIdeal.main_v66) = v4 c
          ∧ r.2.mem ((c.tc : Thread Cert.Ffn1RefIdeal.nD Cert.Ffn1RefIdeal.τ).loc Cert.Ffn1RefIdeal.main_v68) = v5 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6)
          ∧ r.2.mem ((c.tc : Thread Cert.Ffn1RefIdeal.nD Cert.Ffn1RefIdeal.τ).loc Cert.Ffn1RefIdeal.main_arg7) = m' ((c.tc : Thread Cert.Ffn1RefIdeal.nD Cert.Ffn1RefIdeal.τ).loc Cert.Ffn1RefIdeal.main_arg7)
          ∧ r.2.mem ((c.tc : Thread Cert.Ffn1RefIdeal.nD Cert.Ffn1RefIdeal.τ).loc Cert.Ffn1RefIdeal.main_arg8) = m' ((c.tc : Thread Cert.Ffn1RefIdeal.nD Cert.Ffn1RefIdeal.τ).loc Cert.Ffn1RefIdeal.main_arg8)
          ∧ r.2.mem ((c.tc : Thread Cert.Ffn1RefIdeal.nD Cert.Ffn1RefIdeal.τ).loc Cert.Ffn1RefIdeal.main_arg9) = m' ((c.tc : Thread Cert.Ffn1RefIdeal.nD Cert.Ffn1RefIdeal.τ).loc Cert.Ffn1RefIdeal.main_arg9)
          ∧ r.2.mem ((c.tc : Thread Cert.Ffn1RefIdeal.nD Cert.Ffn1RefIdeal.τ).loc Cert.Ffn1RefIdeal.main_arg10) = m' ((c.tc : Thread Cert.Ffn1RefIdeal.nD Cert.Ffn1RefIdeal.τ).loc Cert.Ffn1RefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)) (v3 : (c : Dev Cert.ProjIdeal.nD) → Buf (Elt Ideal) ((c.tc : Thread Cert.ProjIdeal.nD Cert.ProjIdeal.τ).loc Cert.ProjIdeal.main_v1_4)) (v4 : (c : Dev Cert.ProjIdeal.nD) → Buf (Elt Ideal) ((c.tc : Thread Cert.ProjIdeal.nD Cert.ProjIdeal.τ).loc Cert.ProjIdeal.main_v1_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_v1_4) = v3 c
          ∧ r.2.mem ((c.tc : Thread Cert.ProjIdeal.nD Cert.ProjIdeal.τ).loc Cert.ProjIdeal.main_v1_5) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v44) = v0 c
          ∧ r.2.mem ((c.tc : Thread Cert.ProjRefIdeal.nD Cert.ProjRefIdeal.τ).loc Cert.ProjRefIdeal.main_v47) = v1 c
          ∧ r.2.mem ((c.tc : Thread Cert.ProjRefIdeal.nD Cert.ProjRefIdeal.τ).loc Cert.ProjRefIdeal.main_v39) = v2 c
          ∧ r.2.mem ((c.tc : Thread Cert.ProjRefIdeal.nD Cert.ProjRefIdeal.τ).loc Cert.ProjRefIdeal.main_v49) = v3 c
          ∧ r.2.mem ((c.tc : Thread Cert.ProjRefIdeal.nD Cert.ProjRefIdeal.τ).loc Cert.ProjRefIdeal.main_v51) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v52) = v0 c
          ∧ r.2.mem ((c.tc : Thread Cert.MixRefIdeal.nD Cert.MixRefIdeal.τ).loc Cert.MixRefIdeal.main_v54) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v1) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v59) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Bias_BiasIdeal : Prop :=
  True

def algebraic_BiasIdeal_BiasRefIdeal_pre_below_infinity [hBiasIdeal : Cert.BiasIdeal.Facts] [hBiasRefIdeal : Cert.BiasRefIdeal.Facts] [hPre_below_infinity : Cert.Pre_below_infinity.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_below_infinity m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v2)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v2) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v39) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hAda : Cert.Ada.Facts) (hAdaIdeal : Cert.AdaIdeal.Facts) (hAdaRefIdeal : Cert.AdaRefIdeal.Facts) (hFfn1 : Cert.Ffn1.Facts) (hFfn1Ideal : Cert.Ffn1Ideal.Facts) (hFfn1RefIdeal : Cert.Ffn1RefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hFfn2 : Cert.Ffn2.Facts) (hFfn2Ideal : Cert.Ffn2Ideal.Facts) (hFfn2RefIdeal : Cert.Ffn2RefIdeal.Facts) (hBias : Cert.Bias.Facts) (hBiasIdeal : Cert.BiasIdeal.Facts) (hBiasRefIdeal : Cert.BiasRefIdeal.Facts) (hPre_below_infinity : Cert.Pre_below_infinity.Facts),
    quiescent_Ada (hAda := hAda)
    ∧ quiescent_AdaIdeal (hAdaIdeal := hAdaIdeal)
    ∧ quiescent_AdaRefIdeal (hAdaRefIdeal := hAdaRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Bias (hBias := hBias)
    ∧ quiescent_BiasIdeal (hBiasIdeal := hBiasIdeal)
    ∧ quiescent_BiasIdeal_pre_below_infinity (hBiasIdeal := hBiasIdeal) (hPre_below_infinity := hPre_below_infinity)
    ∧ quiescent_BiasRefIdeal (hBiasRefIdeal := hBiasRefIdeal)
    ∧ quiescent_BiasRefIdeal_pre_below_infinity (hBiasRefIdeal := hBiasRefIdeal) (hPre_below_infinity := hPre_below_infinity)
    ∧ preserves_Ada_AdaIdeal
    ∧ algebraic_AdaIdeal_AdaRefIdeal (hAdaIdeal := hAdaIdeal) (hAdaRefIdeal := hAdaRefIdeal)
    ∧ preserves_Ffn1_Ffn1Ideal
    ∧ algebraic_Ffn1Ideal_Ffn1RefIdeal (hFfn1Ideal := hFfn1Ideal) (hFfn1RefIdeal := hFfn1RefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Ffn2_Ffn2Ideal
    ∧ algebraic_Ffn2Ideal_Ffn2RefIdeal (hFfn2Ideal := hFfn2Ideal) (hFfn2RefIdeal := hFfn2RefIdeal)
    ∧ preserves_Bias_BiasIdeal
    ∧ algebraic_BiasIdeal_BiasRefIdeal_pre_below_infinity (hBiasIdeal := hBiasIdeal) (hBiasRefIdeal := hBiasRefIdeal) (hPre_below_infinity := hPre_below_infinity)
-- ==== Pre_below_infinity.lean ====
abbrev S1x8x257 : Shape := ⟨3, ![1, 8, 257]⟩
abbrev S_ : Shape := ⟨0, ![]⟩

class Facts : Prop where
  bcast_S_S1x8x257 : S_.BroadcastsInDim S1x8x257 (![] : Fin 0 → Fin S1x8x257.rank)

variable [Facts]

def fn {F : FTy → Type} [FloatOps F] (main_arg0 : FVec F S1x8x257 .f32) : IVec S1x8x257 1 :=
  let main_cst : FVec F S_ .f32 := constant S_ .f32 0x7F800000#32
  let main_v0 : FVec F S1x8x257 .f32 := broadcastInDim S1x8x257 ![] bcast_S_S1x8x257 main_cst
  let main_v1 : IVec S1x8x257 1 := cmpf .olt main_arg0 main_v0
  main_v1
-- ==== Ada.lean ====
abbrev S4x1024 : Shape := ⟨2, ![4, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S9216 : Shape := ⟨1, ![9216]⟩
abbrev S4x9216 : Shape := ⟨2, ![4, 9216]⟩
abbrev S1024x5632 : Shape := ⟨2, ![1024, 5632]⟩
abbrev S2816x1024 : Shape := ⟨2, ![2816, 1024]⟩
abbrev S1x1024x1152 : Shape := ⟨3, ![1, 1024, 1152]⟩
abbrev S1x1152 : Shape := ⟨2, ![1, 1152]⟩
abbrev S1x128x5632 : Shape := ⟨3, ![1, 128, 5632]⟩
abbrev S1x352x1024 : Shape := ⟨3, ![1, 352, 1024]⟩
abbrev S4x1152 : Shape := ⟨2, ![4, 1152]⟩
abbrev S128x5632 : Shape := ⟨2, ![128, 5632]⟩
abbrev S352x1024 : Shape := ⟨2, ![352, 1024]⟩
abbrev S1024x1152 : Shape := ⟨2, ![1024, 1152]⟩

abbrev nBuf : Space → Nat
  | .hbm => 10
  | .vmem => 15
  | .smem => 0
  | _ => 0

abbrev bufTy : (tb : Table) → Fin (tcTables nBuf tb) → BufTy
  | .hbm, ⟨0, _⟩ => ⟨S4x1024, .f32⟩
  | .hbm, ⟨1, _⟩ => ⟨S1x1024x9216, .f32⟩
  | .hbm, ⟨2, _⟩ => ⟨S1x9216, .f32⟩
  | .hbm, ⟨3, _⟩ => ⟨S1x1024x5632, .f32⟩
  | .hbm, ⟨4, _⟩ => ⟨S1x2816x1024, .f32⟩
  | .hbm, ⟨5, _⟩ => ⟨S9216, .f32⟩
  | .hbm, ⟨6, _⟩ => ⟨S1x9216, .f32⟩
  | .hbm, ⟨7, _⟩ => ⟨S4x9216, .f32⟩
  | .hbm, ⟨8, _⟩ => ⟨S1024x5632, .bf16⟩
  | .hbm, ⟨9, _⟩ => ⟨S2816x1024, .bf16⟩
  | .local _ .vmem, ⟨0, _⟩ => ⟨S4x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1152, .f32⟩
  | .local _ .vmem, ⟨4, _⟩ => ⟨S1x1152, .f32⟩
  | .local _ .vmem, ⟨5, _⟩ => ⟨S1x128x5632, .f32⟩
  | .local _ .vmem, ⟨6, _⟩ => ⟨S1x128x5632, .f32⟩
  | .local _ .vmem, ⟨7, _⟩ => ⟨S1x352x1024, .f32⟩
  | .local _ .vmem, ⟨8, _⟩ => ⟨S1x352x1024, .f32⟩
  | .local _ .vmem, ⟨9, _⟩ => ⟨S4x1152, .f32⟩
  | .local _ .vmem, ⟨10, _⟩ => ⟨S4x1152, .f32⟩
  | .local _ .vmem, ⟨11, _⟩ => ⟨S128x5632, .bf16⟩
  | .local _ .vmem, ⟨12, _⟩ => ⟨S128x5632, .bf16⟩
  | .local _ .vmem, ⟨13, _⟩ => ⟨S352x1024, .bf16⟩
  | .local _ .vmem, ⟨14, _⟩ => ⟨S352x1024, .bf16⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdaRefIdeal.lean ====
abbrev S4x1024 : Shape := ⟨2, ![4, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S_ : Shape := ⟨0, ![]⟩
abbrev S1024x9216 : Shape := ⟨2, ![1024, 9216]⟩
abbrev S4x9216 : Shape := ⟨2, ![4, 9216]⟩
abbrev S9216 : Shape := ⟨1, ![9216]⟩
abbrev S1024x5632 : Shape := ⟨2, ![1024, 5632]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x9216, .f32⟩
  | .hbm, ⟨2, _⟩ => ⟨S1x9216, .f32⟩
  | .hbm, ⟨3, _⟩ => ⟨S1x1024x5632, .f32⟩
  | .hbm, ⟨4, _⟩ => ⟨S1x2816x1024, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S1024x9216, .f32⟩
  | .hbm, ⟨15, _⟩ => ⟨S4x9216, .f32⟩
  | .hbm, ⟨16, _⟩ => ⟨S9216, .f32⟩
  | .hbm, ⟨17, _⟩ => ⟨S1x9216, .f32⟩
  | .hbm, ⟨18, _⟩ => ⟨S4x9216, .f32⟩
  | .hbm, ⟨19, _⟩ => ⟨S4x9216, .f32⟩
  | .hbm, ⟨20, _⟩ => ⟨S1024x5632, .f32⟩
  | .hbm, ⟨21, _⟩ => ⟨S1024x5632, .bf16⟩
  | .hbm, ⟨22, _⟩ => ⟨S2816x1024, .f32⟩
  | .hbm, ⟨23, _⟩ => ⟨S2816x1024, .bf16⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Ffn1.lean ====
abbrev S4x4096x1024 : Shape := ⟨3, ![4, 4096, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S2816x1024 : Shape := ⟨2, ![2816, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S1x2816x1024 : Shape := ⟨3, ![1, 2816, 1024]⟩
abbrev S16384x1024 : Shape := ⟨2, ![16384, 1024]⟩
abbrev S4x9x1024 : Shape := ⟨3, ![4, 9, 1024]⟩
abbrev S512x1024 : Shape := ⟨2, ![512, 1024]⟩
abbrev S1024x1024 : Shape := ⟨2, ![1024, 1024]⟩
abbrev S1x9x1024 : Shape := ⟨3, ![1, 9, 1024]⟩
abbrev S1x64x5632 : Shape := ⟨3, ![1, 64, 5632]⟩
abbrev S1x32x1024 : Shape := ⟨3, ![1, 32, 1024]⟩
abbrev S1x64x1024 : Shape := ⟨3, ![1, 64, 1024]⟩
abbrev S1x176x1024 : Shape := ⟨3, ![1, 176, 1024]⟩
abbrev S64x5632 : Shape := ⟨2, ![64, 5632]⟩
abbrev S32x1024 : Shape := ⟨2, ![32, 1024]⟩
abbrev S64x1024 : Shape := ⟨2, ![64, 1024]⟩
abbrev S176x1024 : Shape := ⟨2, ![176, 1024]⟩
abbrev S2x512x1024 : Shape := ⟨3, ![2, 512, 1024]⟩
abbrev S2x512x2816 : Shape := ⟨3, ![2, 512, 2816]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩

abbrev nBuf : Space → Nat
  | .hbm => 19
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S4x3x3x1024, .f32⟩
  | .hbm, ⟨2, _⟩ => ⟨S3x1024, .f32⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S1x1024x5632, .f32⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1x2816x1024, .f32⟩
  | .hbm, ⟨11, _⟩ => ⟨S16384x1024, .f32⟩
  | .hbm, ⟨12, _⟩ => ⟨S4x9x1024, .f32⟩
  | .hbm, ⟨13, _⟩ => ⟨S16384x1024, .f32⟩
  | .hbm, ⟨14, _⟩ => ⟨S1024x5632, .bf16⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x64x5632, .f32⟩
  | .local _ .vmem, ⟨9, _⟩ => ⟨S1x64x5632, .f32⟩
  | .local _ .vmem, ⟨10, _⟩ => ⟨S1x32x1024, .f32⟩
  | .local _ .vmem, ⟨11, _⟩ => ⟨S1x32x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x176x1024, .f32⟩
  | .local _ .vmem, ⟨17, _⟩ => ⟨S1x176x1024, .f32⟩
  | .local _ .vmem, ⟨18, _⟩ => ⟨S1024x1024, .f32⟩
  | .local _ .vmem, ⟨19, _⟩ => ⟨S1024x1024, .f32⟩
  | .local _ .vmem, ⟨20, _⟩ => ⟨S64x5632, .bf16⟩
  | .local _ .vmem, ⟨21, _⟩ => ⟨S64x5632, .bf16⟩
  | .local _ .vmem, ⟨22, _⟩ => ⟨S32x1024, .bf16⟩
  | .local _ .vmem, ⟨23, _⟩ => ⟨S32x1024, .bf16⟩
  | .local _ .vmem, ⟨24, _⟩ => ⟨S64x1024, .bf16⟩
  | .local _ .vmem, ⟨25, _⟩ => ⟨S64x1024, .bf16⟩
  | .local _ .vmem, ⟨26, _⟩ => ⟨S64x1024, .bf16⟩
  | .local _ .vmem, ⟨27, _⟩ => ⟨S64x1024, .bf16⟩
  | .local _ .vmem, ⟨28, _⟩ => ⟨S176x1024, .bf16⟩
  | .local _ .vmem, ⟨29, _⟩ => ⟨S176x1024, .bf16⟩
  | .local _ .vmem, ⟨30, _⟩ => ⟨S2x512x1024, .bf16⟩
  | .local _ .vmem, ⟨31, _⟩ => ⟨S2x512x2816, .bf16⟩
  | .local _ .vmem, ⟨32, _⟩ => ⟨S2x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Ffn1RefIdeal.lean ====
abbrev S4x4096x1024 : Shape := ⟨3, ![4, 4096, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S2816x1024 : Shape := ⟨2, ![2816, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S1x2816x1024 : Shape := ⟨3, ![1, 2816, 1024]⟩
abbrev S1x1024 : Shape := ⟨2, ![1, 1024]⟩
abbrev S1024 : Shape := ⟨1, ![1024]⟩
abbrev S4x1x1x1024 : Shape := ⟨4, ![4, 1, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩
abbrev S512x1024 : Shape := ⟨2, ![512, 1024]⟩
abbrev S1024x1024 : Shape := ⟨2, ![1024, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3x3x1024, .f32⟩
  | .hbm, ⟨2, _⟩ => ⟨S3x1024, .f32⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S1x1024x5632, .f32⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1x2816x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4x1x1x1024, .f32⟩
  | .hbm, ⟨16, _⟩ => ⟨S4x1024, .f32⟩
  | .hbm, ⟨17, _⟩ => ⟨S4x1x1x1024, .f32⟩
  | .hbm, ⟨18, _⟩ => ⟨S4x1024, .f32⟩
  | .hbm, ⟨19, _⟩ => ⟨S4x1x1x1024, .f32⟩
  | .hbm, ⟨20, _⟩ => ⟨S4x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x1x1024, .f32⟩
  | .hbm, ⟨44, _⟩ => ⟨S4x4096x1024, .f32⟩
  | .hbm, ⟨45, _⟩ => ⟨S4x4096x1024, .f32⟩
  | .hbm, ⟨46, _⟩ => ⟨S1024x5632, .f32⟩
  | .hbm, ⟨47, _⟩ => ⟨S2816x1024, .f32⟩
  | .hbm, ⟨48, _⟩ => ⟨S4x4096x5632, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x1024, .f32⟩
  | .hbm, ⟨74, _⟩ => ⟨S4x4096x1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S4x1x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S16384x1024, .f32⟩
  | .hbm, ⟨86, _⟩ => ⟨S1024x5632, .f32⟩
  | .hbm, ⟨87, _⟩ => ⟨S1024x5632, .bf16⟩
  | .hbm, ⟨88, _⟩ => ⟨S512x1024, .f32⟩
  | .hbm, ⟨89, _⟩ => ⟨S512x1024, .bf16⟩
  | .hbm, ⟨90, _⟩ => ⟨S1024x1024, .f32⟩
  | .hbm, ⟨91, _⟩ => ⟨S1024x1024, .bf16⟩
  | .hbm, ⟨92, _⟩ => ⟨S1024x1024, .f32⟩
  | .hbm, ⟨93, _⟩ => ⟨S1024x1024, .bf16⟩
  | .hbm, ⟨94, _⟩ => ⟨S2816x1024, .f32⟩
  | .hbm, ⟨95, _⟩ => ⟨S2816x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proj.lean ====
abbrev S16384x1024 : Shape := ⟨2, ![16384, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S4x1024 : Shape := ⟨2, ![4, 1024]⟩
abbrev S1x1024 : Shape := ⟨2, ![1, 1024]⟩
abbrev S8x128x256 : Shape := ⟨3, ![8, 128, 256]⟩
abbrev S4x9x1024 : Shape := ⟨3, ![4, 9, 1024]⟩
abbrev S4x4x4096x128 : Shape := ⟨4, ![4, 4, 4096, 128]⟩
abbrev S4x8x64x4096 : Shape := ⟨4, ![4, 8, 64, 4096]⟩
abbrev S512x1024 : Shape := ⟨2, ![512, 1024]⟩
abbrev S1x9x1024 : Shape := ⟨3, ![1, 9, 1024]⟩
abbrev S1x4x512x128 : Shape := ⟨4, ![1, 4, 512, 128]⟩
abbrev S1x8x64x512 : Shape := ⟨4, ![1, 8, 64, 512]⟩
abbrev S8x512x128 : Shape := ⟨3, ![8, 512, 128]⟩
abbrev S8x3x8x128 : Shape := ⟨4, ![8, 3, 8, 128]⟩
abbrev S8x8x128 : Shape := ⟨3, ![8, 8, 128]⟩
abbrev S8x256x128 : Shape := ⟨3, ![8, 256, 128]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x1x512x128 : Shape := ⟨4, ![1, 1, 512, 128]⟩
abbrev S8x128 : Shape := ⟨2, ![8, 128]⟩
abbrev S1x256x128 : Shape := ⟨3, ![1, 256, 128]⟩
abbrev S256x128 : Shape := ⟨2, ![256, 128]⟩
abbrev S32x8x128 : Shape := ⟨3, ![32, 8, 128]⟩
abbrev S3x8x128 : Shape := ⟨3, ![3, 8, 128]⟩
abbrev S1x3x8x128 : Shape := ⟨4, ![1, 3, 8, 128]⟩
abbrev S1x8x128 : Shape := ⟨3, ![1, 8, 128]⟩
abbrev S35x8x128 : Shape := ⟨3, ![35, 8, 128]⟩
abbrev S1x128 : Shape := ⟨2, ![1, 128]⟩
abbrev S1x1x128 : Shape := ⟨3, ![1, 1, 128]⟩
abbrev S1x128x256 : Shape := ⟨3, ![1, 128, 256]⟩
abbrev S128x256 : Shape := ⟨2, ![128, 256]⟩
abbrev S256x256 : Shape := ⟨2, ![256, 256]⟩
abbrev S256x512 : Shape := ⟨2, ![256, 512]⟩
abbrev S4x64x512 : Shape := ⟨3, ![4, 64, 512]⟩
abbrev S1x4x64x512 : Shape := ⟨4, ![1, 4, 64, 512]⟩
abbrev S32x128 : Shape := ⟨2, ![32, 128]⟩
abbrev S1x32x128 : Shape := ⟨3, ![1, 32, 128]⟩

abbrev nBuf : Space → Nat
  | .hbm => 17
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S1024x5632, .bf16⟩
  | .hbm, ⟨4, _⟩ => ⟨S4x1024, .f32⟩
  | .hbm, ⟨5, _⟩ => ⟨S1x1024, .f32⟩
  | .hbm, ⟨6, _⟩ => ⟨S8x128x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x9x1024, .f32⟩
  | .hbm, ⟨11, _⟩ => ⟨S4x4x4096x128, .bf16⟩
  | .hbm, ⟨12, _⟩ => ⟨S4x4x4096x128, .bf16⟩
  | .hbm, ⟨13, _⟩ => ⟨S4x8x64x4096, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x5632, .bf16⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x4x512x128, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S1x8x64x512, .bf16⟩
  | .local _ .vmem, ⟨17, _⟩ => ⟨S1x8x64x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S8x512x128, .f32⟩
  | .local _ .vmem, ⟨25, _⟩ => ⟨S512x1024, .f32⟩
  | .local _ .vmem, ⟨26, _⟩ => ⟨S8x3x8x128, .f32⟩
  | .local _ .vmem, ⟨27, _⟩ => ⟨S8x8x128, .f32⟩
  | .local _ .vmem, ⟨28, _⟩ => ⟨S8x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_11 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_12 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16384x1024 : Shape := ⟨2, ![16384, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S4x1024 : Shape := ⟨2, ![4, 1024]⟩
abbrev S1x1024 : Shape := ⟨2, ![1, 1024]⟩
abbrev S8x128x256 : Shape := ⟨3, ![8, 128, 256]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x4096x5632 : Shape := ⟨3, ![4, 4096, 5632]⟩
abbrev S4x4096x512 : Shape := ⟨3, ![4, 4096, 512]⟩
abbrev S4x4096x8x64 : Shape := ⟨4, ![4, 4096, 8, 64]⟩
abbrev S4x8x64x4096 : Shape := ⟨4, ![4, 8, 64, 4096]⟩
abbrev S4x4096x4x128 : Shape := ⟨4, ![4, 4096, 4, 128]⟩
abbrev S4x4x4096x128 : Shape := ⟨4, ![4, 4, 4096, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S1024x5632, .bf16⟩
  | .hbm, ⟨4, _⟩ => ⟨S4x1024, .f32⟩
  | .hbm, ⟨5, _⟩ => ⟨S1x1024, .f32⟩
  | .hbm, ⟨6, _⟩ => ⟨S8x128x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x4096x1024, .f32⟩
  | .hbm, ⟨11, _⟩ => ⟨S1x1024, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x1x1x1024, .f32⟩
  | .hbm, ⟨30, _⟩ => ⟨S4x1024, .f32⟩
  | .hbm, ⟨31, _⟩ => ⟨S4x1x1x1024, .f32⟩
  | .hbm, ⟨32, _⟩ => ⟨S4x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S1024x5632, .f32⟩
  | .hbm, ⟨43, _⟩ => ⟨S4x4096x5632, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x512, .bf16⟩
  | .hbm, ⟨52, _⟩ => ⟨S4x4096x8x64, .bf16⟩
  | .hbm, ⟨53, _⟩ => ⟨S4x8x64x4096, .bf16⟩
  | .hbm, ⟨54, _⟩ => ⟨S_, .f32⟩
  | .hbm, ⟨55, _⟩ => ⟨S4x4096x512, .f32⟩
  | .hbm, ⟨56, _⟩ => ⟨S4x4096x512, .f32⟩
  | .hbm, ⟨57, _⟩ => ⟨S4x4096x512, .bf16⟩
  | .hbm, ⟨58, _⟩ => ⟨S4x4096x4x128, .bf16⟩
  | .hbm, ⟨59, _⟩ => ⟨S4x4x4096x128, .bf16⟩
  | .hbm, ⟨60, _⟩ => ⟨S4x4096x512, .bf16⟩
  | .hbm, ⟨61, _⟩ => ⟨S4x4096x4x128, .bf16⟩
  | .hbm, ⟨62, _⟩ => ⟨S4x4x4096x128, .bf16⟩
  | .hbm, ⟨63, _⟩ => ⟨S4x4096x1024, .bf16⟩
  | .hbm, ⟨64, _⟩ => ⟨S16384x1024, .bf16⟩
  | .hbm, ⟨65, _⟩ => ⟨S4x4096x1024, .bf16⟩
  | .hbm, ⟨66, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Mix.lean ====
abbrev S16384x1024 : Shape := ⟨2, ![16384, 1024]⟩
abbrev S4x3x3x1024 : Shape := ⟨4, ![4, 3, 3, 1024]⟩
abbrev S3x1024 : Shape := ⟨2, ![3, 1024]⟩
abbrev S4x4096x512 : Shape := ⟨3, ![4, 4096, 512]⟩
abbrev S512x1024 : Shape := ⟨2, ![512, 1024]⟩
abbrev S1024x1024 : Shape := ⟨2, ![1024, 1024]⟩
abbrev S1x1024x5632 : Shape := ⟨3, ![1, 1024, 5632]⟩
abbrev S4x9x1024 : Shape := ⟨3, ![4, 9, 1024]⟩
abbrev S16384x512 : Shape := ⟨2, ![16384, 512]⟩
abbrev S1024x5632 : Shape := ⟨2, ![1024, 5632]⟩
abbrev S1x9x1024 : Shape := ⟨3, ![1, 9, 1024]⟩
abbrev S1024x512 : Shape := ⟨2, ![1024, 512]⟩
abbrev S1x64x5632 : Shape := ⟨3, ![1, 64, 5632]⟩
abbrev S64x5632 : Shape := ⟨2, ![64, 5632]⟩
abbrev S2x512x1024 : Shape := ⟨3, ![2, 512, 1024]⟩
abbrev S1x1x1024 : Shape := ⟨3, ![1, 1, 1024]⟩
abbrev S1x1024 : Shape := ⟨2, ![1, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S4x4096x512, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S512x1024, .bf16⟩
  | .hbm, ⟨8, _⟩ => ⟨S1024x1024, .bf16⟩
  | .hbm, ⟨9, _⟩ => ⟨S1024x1024, .bf16⟩
  | .hbm, ⟨10, _⟩ => ⟨S1x1024x5632, .f32⟩
  | .hbm, ⟨11, _⟩ => ⟨S4x9x1024, .f32⟩
  | .hbm, ⟨12, _⟩ => ⟨S16384x512, .bf16⟩
  | .hbm, ⟨13, _⟩ => ⟨S16384x1024, .f32⟩
  | .hbm, ⟨14, _⟩ => ⟨S1024x5632, .bf16⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x64x5632, .f32⟩
  | .local _ .vmem, ⟨17, _⟩ => ⟨S1x64x5632, .f32⟩
  | .local _ .vmem, ⟨18, _⟩ => ⟨S1024x1024, .f32⟩
  | .local _ .vmem, ⟨19, _⟩ => ⟨S1024x1024, .f32⟩
  | .local _ .vmem, ⟨20, _⟩ => ⟨S64x5632, .bf16⟩
  | .local _ .vmem, ⟨21, _⟩ => ⟨S64x5632, .bf16⟩
  | .local _ .vmem, ⟨22, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S16384x1024 : Shape := ⟨2, ![16384, 1024]⟩
abbrev S4x3x3x1024 : Shape := ⟨4, ![4, 3, 3, 1024]⟩
abbrev S3x1024 : Shape := ⟨2, ![3, 1024]⟩
abbrev S4x4096x512 : Shape := ⟨3, ![4, 4096, 512]⟩
abbrev S512x1024 : Shape := ⟨2, ![512, 1024]⟩
abbrev S1024x1024 : Shape := ⟨2, ![1024, 1024]⟩
abbrev S1x1024x5632 : Shape := ⟨3, ![1, 1024, 5632]⟩
abbrev S4x4096x1024 : Shape := ⟨3, ![4, 4096, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S1024x5632 : Shape := ⟨2, ![1024, 5632]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S4x4096x512, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S512x1024, .bf16⟩
  | .hbm, ⟨8, _⟩ => ⟨S1024x1024, .bf16⟩
  | .hbm, ⟨9, _⟩ => ⟨S1024x1024, .bf16⟩
  | .hbm, ⟨10, _⟩ => ⟨S1x1024x5632, .f32⟩
  | .hbm, ⟨11, _⟩ => ⟨S4x4096x1024, .f32⟩
  | .hbm, ⟨12, _⟩ => ⟨S4x4096x512, .f32⟩
  | .hbm, ⟨13, _⟩ => ⟨S512x1024, .f32⟩
  | .hbm, ⟨14, _⟩ => ⟨S4x4096x1024, .f32⟩
  | .hbm, ⟨15, _⟩ => ⟨S16384x1024, .f32⟩
  | .hbm, ⟨16, _⟩ => ⟨S4x4096x1024, .f32⟩
  | .hbm, ⟨17, _⟩ => ⟨S1024x1024, .f32⟩
  | .hbm, ⟨18, _⟩ => ⟨S4x4096x1024, .f32⟩
  | .hbm, ⟨19, _⟩ => ⟨S16384x1024, .f32⟩
  | .hbm, ⟨20, _⟩ => ⟨S4x4096x1024, .f32⟩
  | .hbm, ⟨21, _⟩ => ⟨S16384x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1024x1024, .f32⟩
  | .hbm, ⟨43, _⟩ => ⟨S4x4096x1024, .f32⟩
  | .hbm, ⟨44, _⟩ => ⟨S1x1024, .f32⟩
  | .hbm, ⟨45, _⟩ => ⟨S1024, .f32⟩
  | .hbm, ⟨46, _⟩ => ⟨S4x4096x1024, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S4x1x1x1024, .f32⟩
  | .hbm, ⟨63, _⟩ => ⟨S4x1024, .f32⟩
  | .hbm, ⟨64, _⟩ => ⟨S4x1x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | .hbm, ⟨72, _⟩ => ⟨S1024x5632, .f32⟩
  | .hbm, ⟨73, _⟩ => ⟨S1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Ffn2.lean ====
abbrev S16384x1024 : Shape := ⟨2, ![16384, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S2816x1024 : Shape := ⟨2, ![2816, 1024]⟩
abbrev S4x9x1024 : Shape := ⟨3, ![4, 9, 1024]⟩
abbrev S1024x1024 : Shape := ⟨2, ![1024, 1024]⟩
abbrev S1x9x1024 : Shape := ⟨3, ![1, 9, 1024]⟩
abbrev S2x512x1024 : Shape := ⟨3, ![2, 512, 1024]⟩
abbrev S2x512x2816 : Shape := ⟨3, ![2, 512, 2816]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S4x9x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | .local _ .vmem, ⟨10, _⟩ => ⟨S2x512x1024, .bf16⟩
  | .local _ .vmem, ⟨11, _⟩ => ⟨S2x512x2816, .bf16⟩
  | .local _ .vmem, ⟨12, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ffn2RefIdeal.lean ====
abbrev S16384x1024 : Shape := ⟨2, ![16384, 1024]⟩
abbrev S4x3x3x1024 : Shape := ⟨4, ![4, 3, 3, 1024]⟩
abbrev S3x1024 : Shape := ⟨2, ![3, 1024]⟩
abbrev S1024x5632 : Shape := ⟨2, ![1024, 5632]⟩
abbrev S2816x1024 : Shape := ⟨2, ![2816, 1024]⟩
abbrev S4x4096x1024 : Shape := ⟨3, ![4, 4096, 1024]⟩
abbrev S1x1024 : Shape := ⟨2, ![1, 1024]⟩
abbrev S1024 : Shape := ⟨1, ![1024]⟩
abbrev S4x1x1x1024 : Shape := ⟨4, ![4, 1, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4096x2816 : Shape := ⟨3, ![4, 4096, 2816]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x3x3x1024, .f32⟩
  | .hbm, ⟨2, _⟩ => ⟨S3x1024, .f32⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S4x4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4x1x1x1024, .f32⟩
  | .hbm, ⟨12, _⟩ => ⟨S4x1024, .f32⟩
  | .hbm, ⟨13, _⟩ => ⟨S4x1x1x1024, .f32⟩
  | .hbm, ⟨14, _⟩ => ⟨S4x1024, .f32⟩
  | .hbm, ⟨15, _⟩ => ⟨S4x1x1x1024, .f32⟩
  | .hbm, ⟨16, _⟩ => ⟨S4x1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S1024x5632, .f32⟩
  | .hbm, ⟨43, _⟩ => ⟨S2816x1024, .f32⟩
  | .hbm, ⟨44, _⟩ => ⟨S4x4096x5632, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S_, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S1x1x1024, .f32⟩
  | .hbm, ⟨72, _⟩ => ⟨S4x4096x1024, .f32⟩
  | .hbm, ⟨73, _⟩ => ⟨S4x4096x1024, .f32⟩
  | .hbm, ⟨74, _⟩ => ⟨S4x1x1024, .f32⟩
  | .hbm, ⟨75, _⟩ => ⟨S_, .f32⟩
  | .hbm, ⟨76, _⟩ => ⟨S4x1x1024, .f32⟩
  | .hbm, ⟨77, _⟩ => ⟨S4x1x1024, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Bias.lean ====
abbrev S1x8x257 : Shape := ⟨3, ![1, 8, 257]⟩
abbrev S8x257 : Shape := ⟨2, ![8, 257]⟩
abbrev S_ : Shape := ⟨0, ![]⟩
abbrev S8x384 : Shape := ⟨2, ![8, 384]⟩
abbrev S8x768x256 : Shape := ⟨3, ![8, 768, 256]⟩
abbrev S384x1024 : Shape := ⟨2, ![384, 1024]⟩
abbrev S8x1024 : Shape := ⟨2, ![8, 1024]⟩
abbrev S768x256 : Shape := ⟨2, ![768, 256]⟩
abbrev S1x1024 : Shape := ⟨2, ![1, 1024]⟩
abbrev S768x1024 : Shape := ⟨2, ![768, 1024]⟩
abbrev S1x768x256 : Shape := ⟨3, ![1, 768, 256]⟩

abbrev nBuf : Space → Nat
  | .hbm => 6
  | .vmem => 2
  | .smem => 0
  | _ => 0

abbrev bufTy : (tb : Table) → Fin (tcTables nBuf tb) → BufTy
  | .hbm, ⟨0, _⟩ => ⟨S1x8x257, .f32⟩
  | .hbm, ⟨1, _⟩ => ⟨S8x257, .f32⟩
  | .hbm, ⟨2, _⟩ => ⟨S_, .i32⟩
  | .hbm, ⟨3, _⟩ => ⟨S_, .f32⟩
  | .hbm, ⟨4, _⟩ => ⟨S8x384, .f32⟩
  | .hbm, ⟨5, _⟩ => ⟨S8x768x256, .f32⟩
  | .local _ .vmem, ⟨0, _⟩ => ⟨S8x384, .f32⟩
  | .local _ .vmem, ⟨1, _⟩ => ⟨S8x768x256, .f32⟩
  | _, _ => ⟨S1x8x257, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasRefIdeal.lean ====
abbrev S1x8x257 : Shape := ⟨3, ![1, 8, 257]⟩
abbrev S256 : Shape := ⟨1, ![256]⟩
abbrev S1x256 : Shape := ⟨2, ![1, 256]⟩
abbrev S768 : Shape := ⟨1, ![768]⟩
abbrev S768x1 : Shape := ⟨2, ![768, 1]⟩
abbrev S768x256 : Shape := ⟨2, ![768, 256]⟩
abbrev S_ : Shape := ⟨0, ![]⟩
abbrev S8x257 : Shape := ⟨2, ![8, 257]⟩
abbrev S768x256x1 : Shape := ⟨3, ![768, 256, 1]⟩
abbrev S8x768x256 : Shape := ⟨3, ![8, 768, 256]⟩
abbrev S1x768x256 : Shape := ⟨3, ![1, 768, 256]⟩

abbrev nBuf : Space → Nat
  | .hbm => 126
  | .vmem => 0
  | .smem => 0
  | _ => 0

abbrev bufTy : (tb : Table) → Fin (tcTables nBuf tb) → BufTy
  | .hbm, ⟨0, _⟩ => ⟨S1x8x257, .f32⟩
  | .hbm, ⟨1, _⟩ => ⟨S256, .i32⟩
  | .hbm, ⟨2, _⟩ => ⟨S1x256, .i32⟩
  | .hbm, ⟨3, _⟩ => ⟨S768, .i32⟩
  | .hbm, ⟨4, _⟩ => ⟨S768x1, .i32⟩
  | .hbm, ⟨5, _⟩ => ⟨S768x256, .i32⟩
  | .hbm, ⟨6, _⟩ => ⟨S768x256, .i32⟩
  | .hbm, ⟨7, _⟩ => ⟨S768x256, .i32⟩
  | .hbm, ⟨8, _⟩ => ⟨S_, .i32⟩
  | .hbm, ⟨9, _⟩ => ⟨S768x256, .i32⟩
  | .hbm, ⟨10, _⟩ => ⟨S768x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S768x256, .i32⟩
  | .hbm, ⟨15, _⟩ => ⟨S768x256, .i32⟩
  | .hbm, ⟨16, _⟩ => ⟨S_, .i32⟩
  | .hbm, ⟨17, _⟩ => ⟨S768x256, .i32⟩
  | .hbm, ⟨18, _⟩ => ⟨S768x256, .i32⟩
  | .hbm, ⟨19, _⟩ => ⟨S_, .i32⟩
  | .hbm, ⟨20, _⟩ => ⟨S768x256, .i32⟩
  | .hbm, ⟨21, _⟩ => ⟨S768x256, .i32⟩
  | .hbm, ⟨22, _⟩ => ⟨S_, .i32⟩
  | .hbm, ⟨23, _⟩ => ⟨S_, .i32⟩
  | .hbm, ⟨24, _⟩ => ⟨S768x1, .i32⟩
  | .hbm, ⟨25, _⟩ => ⟨S768x1, .i32⟩
  | .hbm, ⟨26, _⟩ => ⟨S768x1, .i32⟩
  | .hbm, ⟨27, _⟩ => ⟨S_, .i32⟩
  | .hbm, ⟨28, _⟩ => ⟨S768x1, .i32⟩
  | .hbm, ⟨29, _⟩ => ⟨S768x1, .i1⟩
  | .hbm, ⟨30, _⟩ => ⟨S768x1, .i32⟩
  | .hbm, ⟨31, _⟩ => ⟨S768x1, .i32⟩
  | .hbm, ⟨32, _⟩ => ⟨S_, .i32⟩
  | .hbm, ⟨33, _⟩ => ⟨S768x1, .i32⟩
  | .hbm, ⟨34, _⟩ => ⟨S768x1, .i1⟩
  | .hbm, ⟨35, _⟩ => ⟨S768x1, .i1⟩
  | .hbm, ⟨36, _⟩ => ⟨S_, .i32⟩
  | .hbm, ⟨37, _⟩ => ⟨S768x1, .i32⟩
  | .hbm, ⟨38, _⟩ => ⟨S768x1, .i32⟩
  | .hbm, ⟨39, _⟩ => ⟨S768x1, .i32⟩
  | .hbm, ⟨40, _⟩ => ⟨S_, .i32⟩
  | .hbm, ⟨41, _⟩ => ⟨S_, .i32⟩
  | .hbm, ⟨42, _⟩ => ⟨S1x256, .i32⟩
  | .hbm, ⟨43, _⟩ => ⟨S1x256, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x256, .i32⟩
  | .hbm, ⟨49, _⟩ => ⟨S1x256, .i32⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S1x256, .i1⟩
  | .hbm, ⟨54, _⟩ => ⟨S_, .i32⟩
  | .hbm, ⟨55, _⟩ => ⟨S1x256, .i32⟩
  | .hbm, ⟨56, _⟩ => ⟨S1x256, .i32⟩
  | .hbm, ⟨57, _⟩ => ⟨S1x256, .i32⟩
  | .hbm, ⟨58, _⟩ => ⟨S768x256, .i32⟩
  | .hbm, ⟨59, _⟩ => ⟨S768x256, .i32⟩
  | .hbm, ⟨60, _⟩ => ⟨S768x256, .i1⟩
  | .hbm, ⟨61, _⟩ => ⟨S_, .i32⟩
  | .hbm, ⟨62, _⟩ => ⟨S_, .i32⟩
  | .hbm, ⟨63, _⟩ => ⟨S768x1, .i32⟩
  | .hbm, ⟨64, _⟩ => ⟨S768x1, .i32⟩
  | .hbm, ⟨65, _⟩ => ⟨S768x1, .i32⟩
  | .hbm, ⟨66, _⟩ => ⟨S_, .i32⟩
  | .hbm, ⟨67, _⟩ => ⟨S768x1, .i32⟩
  | .hbm, ⟨68, _⟩ => ⟨S768x1, .i1⟩
  | .hbm, ⟨69, _⟩ => ⟨S768x1, .i32⟩
  | .hbm, ⟨70, _⟩ => ⟨S768x1, .i32⟩
  | .hbm, ⟨71, _⟩ => ⟨S_, .i32⟩
  | .hbm, ⟨72, _⟩ => ⟨S768x1, .i32⟩
  | .hbm, ⟨73, _⟩ => ⟨S768x1, .i1⟩
  | .hbm, ⟨74, _⟩ => ⟨S768x1, .i1⟩
  | .hbm, ⟨75, _⟩ => ⟨S_, .i32⟩
  | .hbm, ⟨76, _⟩ => ⟨S768x1, .i32⟩
  | .hbm, ⟨77, _⟩ => ⟨S768x1, .i32⟩
  | .hbm, ⟨78, _⟩ => ⟨S768x1, .i32⟩
  | .hbm, ⟨79, _⟩ => ⟨S_, .i32⟩
  | .hbm, ⟨80, _⟩ => ⟨S_, .i32⟩
  | .hbm, ⟨81, _⟩ => ⟨S1x256, .i32⟩
  | .hbm, ⟨82, _⟩ => ⟨S1x256, .i32⟩
  | .hbm, ⟨83, _⟩ => ⟨S1x256, .i32⟩
  | .hbm, ⟨84, _⟩ => ⟨S_, .i32⟩
  | .hbm, ⟨85, _⟩ => ⟨S1x256, .i32⟩
  | .hbm, ⟨86, _⟩ => ⟨S1x256, .i1⟩
  | .hbm, ⟨87, _⟩ => ⟨S1x256, .i32⟩
  | .hbm, ⟨88, _⟩ => ⟨S1x256, .i32⟩
  | .hbm, ⟨89, _⟩ => ⟨S_, .i32⟩
  | .hbm, ⟨90, _⟩ => ⟨S1x256, .i32⟩
  | .hbm, ⟨91, _⟩ => ⟨S1x256, .i1⟩
  | .hbm, ⟨92, _⟩ => ⟨S1x256, .i1⟩
  | .hbm, ⟨93, _⟩ => ⟨S_, .i32⟩
  | .hbm, ⟨94, _⟩ => ⟨S1x256, .i32⟩
  | .hbm, ⟨95, _⟩ => ⟨S1x256, .i32⟩
  | .hbm, ⟨96, _⟩ => ⟨S1x256, .i32⟩
  | .hbm, ⟨97, _⟩ => ⟨S_, .i32⟩
  | .hbm, ⟨98, _⟩ => ⟨S1x256, .i32⟩
  | .hbm, ⟨99, _⟩ => ⟨S1x256, .i32⟩
  | .hbm, ⟨100, _⟩ => ⟨S768x256, .i32⟩
  | .hbm, ⟨101, _⟩ => ⟨S768x256, .i32⟩
  | .hbm, ⟨102, _⟩ => ⟨S768x256, .i1⟩
  | .hbm, ⟨103, _⟩ => ⟨S768x256, .i1⟩
  | .hbm, ⟨104, _⟩ => ⟨S8x257, .f32⟩
  | .hbm, ⟨105, _⟩ => ⟨S_, .i32⟩
  | .hbm, ⟨106, _⟩ => ⟨S768x256, .i32⟩
  | .hbm, ⟨107, _⟩ => ⟨S768x256, .i1⟩
  | .hbm, ⟨108, _⟩ => ⟨S_, .i32⟩
  | .hbm, ⟨109, _⟩ => ⟨S768x256, .i32⟩
  | .hbm, ⟨110, _⟩ => ⟨S768x256, .i32⟩
  | .hbm, ⟨111, _⟩ => ⟨S768x256, .i32⟩
  | .hbm, ⟨112, _⟩ => ⟨S768x256x1, .i32⟩
  | .hbm, ⟨113, _⟩ => ⟨S8x768x256, .f32⟩
  | .hbm, ⟨114, _⟩ => ⟨S_, .f32⟩
  | .hbm, ⟨115, _⟩ => ⟨S8x768x256, .f32⟩
  | .hbm, ⟨116, _⟩ => ⟨S8x768x256, .f32⟩
  | .hbm, ⟨117, _⟩ => ⟨S_, .f32⟩
  | .hbm, ⟨118, _⟩ => ⟨S_, .f32⟩
  | .hbm, ⟨119, _⟩ => ⟨S768x256, .f32⟩
  | .hbm, ⟨120, _⟩ => ⟨S768x256, .f32⟩
  | .hbm, ⟨121, _⟩ => ⟨S768x256, .f32⟩
  | .hbm, ⟨122, _⟩ => ⟨S768x256, .f32⟩
  | .hbm, ⟨123, _⟩ => ⟨S1x768x256, .f32⟩
  | .hbm, ⟨124, _⟩ => ⟨S8x768x256, .f32⟩
  | .hbm, ⟨125, _⟩ => ⟨S8x768x256, .f32⟩
  | _, _ => ⟨S1x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v12 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_5 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v17 : Ref sig .tc := ⟨.hbm, 78, rfl⟩
abbrev main_c_6 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_c : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_0 : Ref sig .tc := ⟨.hbm, 93, rfl⟩
abbrev main_call4_v12 : Ref sig .tc := ⟨.hbm, 94, rfl⟩
abbrev main_call4_v13 : Ref sig .tc := ⟨.hbm, 95, rfl⟩
abbrev main_v18 : Ref sig .tc := ⟨.hbm, 96, rfl⟩
abbrev main_c_7 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_c_8 : Ref sig .tc := ⟨.hbm, 105, rfl⟩
abbrev main_v26 : Ref sig .tc := ⟨.hbm, 106, rfl⟩
abbrev main_v27 : Ref sig .tc := ⟨.hbm, 107, rfl⟩
abbrev main_c_9 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_cst : Ref sig .tc := ⟨.hbm, 114, rfl⟩
abbrev main_v33 : Ref sig .tc := ⟨.hbm, 115, rfl⟩
abbrev main_v34 : Ref sig .tc := ⟨.hbm, 116, rfl⟩
abbrev main_cst_10 : Ref sig .tc := ⟨.hbm, 117, rfl⟩
abbrev main_cst_11 : Ref sig .tc := ⟨.hbm, 118, rfl⟩
abbrev main_call5_v0 : Ref sig .tc := ⟨.hbm, 119, rfl⟩
abbrev main_call5_v1 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩

abbrev nD : Nat := 1
abbrev τ : Topo := Topo.v7x

variable {F : FTy → Type} [FloatOps F]
-- ==== Proof.Rows.lean ====
/-
  THE LAYER ROW BY ROW, over the extended reals: the functions both sides of every value claim are shown to be.
  A token's row of the feed-forward block depends only on its own row of the input, on its batch's modulation rows and on the
  weights; these are those functions, with nothing of a kernel's blocks or of a reference's shapes in them.
-/
module

public import Idealize.ShloMosaic.Lib.Pointwise

@[expose] public section

noncomputable section

namespace Cert.Rows

open Idealize.ShloMosaic

/-- A row of `n` extended reals. -/
abbrev Row (n : Nat) := Fin n → EReal

/-- A matrix of extended reals, by row and column. -/
abbrev Mat (k n : Nat) := Fin k → Fin n → EReal

/-- The reciprocal root mean square of a row of 1024, the norm's epsilon inside the root. -/
def invRms (x : Row 1024) : EReal :=
  Ideal.rsqrt (Ideal.div (∑ k, x k * x k) (Ideal.ofBits .f32 1149239296#32) + Ideal.ofBits .f32 897988541#32)

/-- The normalised row under its gain. -/
def normed (x g : Row 1024) : Row 1024 := fun d => x d * invRms x * g d

/-- The normalised row scaled and shifted: `norm x * (1 + scale) + shift`. -/
def modulated (x g scale shift : Row 1024) : Row 1024 := fun d => normed x g d * (1 + scale d) + shift d

/-- A row times a matrix. -/
def times {k n : Nat} (h : Row k) (w : Mat k n) : Row n := fun j => ∑ i, h i * w i j

/-- `silu`, as a product with the logistic function. -/
def silu (x : EReal) : EReal := x * Ideal.div 1 (1 + Ideal.exp (-x))

/-- SwiGLU: the first 2816 columns of the gate-and-up product gate the last 2816. -/
def swiglu (h : Row 1024) (w : Mat 1024 5632) : Row 2816 := fun j =>
  silu (times h w ⟨j, by omega⟩) * times h w ⟨2816 + j, by omega⟩

/-- The residual: half the gate times the normalised branch, added to the input row. -/
def halfResidual (x y g gate : Row 1024) : Row 1024 := fun d =>
  x d + Ideal.ofBits .f32 1056964608#32 * gate d * normed y g d

/-- The feed-forward sublayer of one row. -/
def ffn (x pre post shift scale gate : Row 1024) (wGu : Mat 1024 5632) (wDown : Mat 2816 1024) : Row 1024 :=
  halfResidual x (times (swiglu (modulated x pre scale shift) wGu) wDown) post gate

/-- The logistic function. -/
def sigma (x : EReal) : EReal := Ideal.div 1 (1 + Ideal.exp (-x))

/-- The two branches' projections, each under its own gate, added. -/
def merged (att : Row 512) (rec sa sr : Row 1024) (wAtt : Mat 512 1024) (wRec : Mat 1024 1024) : Row 1024 := fun j =>
  sigma (sa j) * times att wAtt j + sigma (sr j) * times rec wRec j

/-- The residual: the gate times the normalised branch, added to the input row. -/
def fullResidual (x y g gate : Row 1024) : Row 1024 := fun d => x d + gate d * normed y g d

/-- The mixer's output of one row. -/
def mixOut (x : Row 1024) (att : Row 512) (rec sa sr post gate : Row 1024) (wAtt : Mat 512 1024) (wRec wOut : Mat 1024 1024) : Row 1024 :=
  fullResidual x (times (merged att rec sa sr wAtt wRec) wOut) post gate

/-- The modulation of a batch: the conditioning row's `silu` times the weights, plus the bias. -/
def adaln {n : Nat} (c : Row 1024) (w : Mat 1024 n) (bias : Row n) : Row n := fun j => times (fun k => silu (c k)) w j + bias j

end Cert.Rows

end
-- ==== Proof.Tiles.lean ====
/-
  Arrays cut in equal runs of whole rows, or of whole columns: the runs cover the array. And a weight's rounded copy without its leading axis.
-/
module

public import Idealize.ShloMosaic.Lib.Pointwise
public import Idealize.ShloMosaic.Lib.Pipeline.Value

@[expose] public section

noncomputable section

namespace Cert.Tiles

open Idealize.ShloMosaic

/-- If the `t`-th of `N` sets holds every index of the rows `B t … B t + B - 1`, the sets cover an array of `B N` rows. -/
theorem rows_cover {N B R W : Nat} (hR : R = B * N) (S : Fin N → Finset (⟨2, ![R, W]⟩ : Shape).Idx)
    (h : ∀ (t : Fin N) (r : Fin B) (d : Fin W) (hr : B * t.val + r.val < R), ix2 ⟨B * t.val + r.val, hr⟩ d ∈ S t)
    (i : (⟨2, ![R, W]⟩ : Shape).Idx) : ∃ t, i ∈ S t := by
  have h0 : (i 0 : Nat) < B * N := hR ▸ (i 0).isLt
  have hB : 0 < B := Nat.pos_of_ne_zero fun e => by rw [e, Nat.zero_mul] at h0; omega
  have e : B * ((i 0 : Nat) / B) + (i 0 : Nat) % B = (i 0 : Nat) := Nat.div_add_mod _ _
  have hr : B * ((i 0 : Nat) / B) + (i 0 : Nat) % B < R := e.symm ▸ (i 0).isLt
  refine ⟨⟨(i 0 : Nat) / B, Nat.div_lt_of_lt_mul h0⟩, ?_⟩
  have := h ⟨(i 0 : Nat) / B, Nat.div_lt_of_lt_mul h0⟩ ⟨(i 0 : Nat) % B, Nat.mod_lt _ hB⟩ (i 1) hr
  have hi : ix2 ⟨B * ((i 0 : Nat) / B) + (i 0 : Nat) % B, hr⟩ (i 1) = i := by
    funext a
    match a with
    | ⟨0, _⟩ => exact Fin.ext e
    | ⟨1, _⟩ => rfl
  exact (congrArg (· ∈ S _) hi).mp this

/-- If the `t`-th of `N` sets holds every index of the columns `B t … B t + B - 1`, the sets cover an array of `B N` columns. -/
theorem cols_cover {N B R W : Nat} (hW : W = B * N) (S : Fin N → Finset (⟨2, ![R, W]⟩ : Shape).Idx)
    (h : ∀ (t : Fin N) (r : Fin R) (d : Fin B) (hd : B * t.val + d.val < W), ix2 r ⟨B * t.val + d.val, hd⟩ ∈ S t)
    (i : (⟨2, ![R, W]⟩ : Shape).Idx) : ∃ t, i ∈ S t := by
  have h0 : (i 1 : Nat) < B * N := hW ▸ (i 1).isLt
  have hB : 0 < B := Nat.pos_of_ne_zero fun e => by rw [e, Nat.zero_mul] at h0; omega
  have e : B * ((i 1 : Nat) / B) + (i 1 : Nat) % B = (i 1 : Nat) := Nat.div_add_mod _ _
  have hd : B * ((i 1 : Nat) / B) + (i 1 : Nat) % B < W := e.symm ▸ (i 1).isLt
  refine ⟨⟨(i 1 : Nat) / B, Nat.div_lt_of_lt_mul h0⟩, ?_⟩
  have := h ⟨(i 1 : Nat) / B, Nat.div_lt_of_lt_mul h0⟩ (i 0) ⟨(i 1 : Nat) % B, Nat.mod_lt _ hB⟩ hd
  have hi : ix2 (i 0) ⟨B * ((i 1 : Nat) / B) + (i 1 : Nat) % B, hd⟩ = i := by
    funext a
    match a with
    | ⟨0, _⟩ => rfl
    | ⟨1, _⟩ => exact Fin.ext e
  exact (congrArg (· ∈ S _) hi).mp this

/-- Dropping a weight's leading axis and rounding it, read at an index: on the extended reals the rounding is the identity. -/
theorem weight_at {R W : Nat} (x : FVec Ideal ⟨3, ![1, R, W]⟩ .f32) (h : (⟨3, ![1, R, W]⟩ : Shape).ShapeCasts ⟨2, ![R, W]⟩)
    (hb : FTy.bits .bf16 < FTy.bits .f32) :
    truncf .bf16 (shapeCast ⟨2, ![R, W]⟩ x h) hb = fun i : (⟨2, ![R, W]⟩ : Shape).Idx => x (ix3 0 (i 0) (i 1)) := by
  funext i
  refine (shapeCast_dropUnit_apply ![R, W] x h i).trans (congrArg x ?_)
  funext a
  match a with
  | ⟨0, _⟩ => rfl
  | ⟨1, _⟩ => rfl
  | ⟨2, _⟩ => rfl

end Cert.Tiles

end
-- ==== Proof.Ada.lean ====
/-
  The modulation's kernel: the arrays it leaves. The main one holds the batches' modulation rows, each point computing its share
  of the columns; the others are weights the first sublayer reads, each point rounding its share of the rows.
-/
module

public import proofs.«01_k».proof.Proof.Rows
public import proofs.«01_k».proof.Proof.Tiles
public import proofs.«01_k».proof.Proof.Gen.AdaIdeal.Value

@[expose] public section

noncomputable section

namespace Cert.AdaIdeal.Whole

open Cert.AdaIdeal Cert.AdaIdeal.Gen Cert.Rows Cert.Tiles Idealize.ShloMosaic Idealize.ShloMosaic.TcCoe Idealize.SL.Sem
open Idealize.ShloMosaic.Pipeline (Dat)

/-! ## The body -/

variable (x0 : Vec Ideal S4x1024 .f32) (x1 : Vec Ideal S1x1024x1152 .f32) (x2 : Vec Ideal S1x1152 .f32) (x3 : Vec Ideal S1x128x5632 .f32)
  (x4 : Vec Ideal S1x352x1024 .f32)

/-- A rank 2 offset of zeros. -/
theorem zero2 : (![0, 0] : Fin 2 → Nat) = fun _ => 0 := by funext a; match a with | ⟨0, _⟩ => rfl | ⟨1, _⟩ => rfl

/-- A rank 3 offset of zeros. -/
theorem zero3 : (![0, 0, 0] : Fin 3 → Nat) = fun _ => 0 := by
  funext a; match a with | ⟨0, _⟩ => rfl | ⟨1, _⟩ => rfl | ⟨2, _⟩ => rfl

/-- The body loads each of its blocks whole. -/
theorem ld0 : View.ld x0 r0_4 = x0 := View.ld_unit_zero zero2 _ x0
theorem ld1 : View.ld x1 r0_5 = x1 := View.ld_unit_zero zero3 _ x1
theorem ld2 : View.ld x2 r0_6 = x2 := View.ld_unit_zero zero2 _ x2
theorem ld3 : View.ld x3 r0_0 = x3 := View.ld_unit_zero zero3 _ x3
theorem ld4 : View.ld x4 r0_2 = x4 := View.ld_unit_zero zero3 _ x4

/-- What the body computes of the main output's block. -/
theorem pay3_eq : k0_pay3 (F := Ideal) x0 x1 x2
    = fun j : S4x1152.Idx => adaln (fun k => x0 (ix2 (j 0) k)) (fun k d => x1 (ix3 0 k d)) (fun d => x2 (ix2 0 d)) (j 1) := by
  unfold_payloads
  funext j
  pointwise [adaln, times, silu, zero_sub]

/-- What it computes of the first rounded weight's block. -/
theorem pay1_eq : k0_pay1 (F := Ideal) x3 = fun j : S128x5632.Idx => x3 (ix3 0 (j 0) (j 1)) := by
  unfold_payloads
  funext j
  pointwise

/-- What it computes of the second's. -/
theorem pay2_eq : k0_pay2 (F := Ideal) x4 = fun j : S352x1024.Idx => x4 (ix3 0 (j 0) (j 1)) := by
  unfold_payloads
  funext j
  pointwise

/-- The main output block. -/
theorem out5_eq : out0_5 x0 x1 x2 x3 x4
    = fun j => adaln (fun k => x0 (ix2 (j 0) k)) (fun k d => x1 (ix3 0 k d)) (fun d => x2 (ix2 0 d)) (j 1) := by
  unfold out0_5
  refine (View.canon_unit_zero zero2 _ _).trans ?_
  simp only [ld0, ld1, ld2]
  exact pay3_eq x0 x1 x2

/-- The first rounded weight's block. -/
theorem out6_eq : out0_6 x0 x1 x2 x3 x4 = fun j => x3 (ix3 0 (j 0) (j 1)) := by
  unfold out0_6
  refine (View.canon_unit_zero zero2 _ _).trans ?_
  simp only [ld3]
  exact pay1_eq x3

/-- The second rounded weight's block. -/
theorem out7_eq : out0_7 x0 x1 x2 x3 x4 = fun j => x4 (ix3 0 (j 0) (j 1)) := by
  unfold out0_7
  refine (View.canon_unit_zero zero2 _ _).trans ?_
  simp only [ld4]
  exact pay2_eq x4

/-! ## The blocks -/

variable (m : (ℓ : Loc nD τ sig) → Buf (Elt Ideal) ℓ) (ρ : Dev nD → PrngReg) (c : Dev nD) (t : Fin cfg0.N)

/-- The grid has eight points. -/
theorem hN : t.val < 8 := N_0 ▸ t.isLt

/-- The host's two reshapes of the bias, which undo each other. -/
theorem V_bias : V m c main_v1 = shapeCast S1x9216 (shapeCast S9216 (m ((c : Thread nD τ).loc main_arg2) : FVec Ideal S1x9216 .f32) shapeCasts_S1x9216_S9216)
    shapeCasts_S9216_S1x9216 := by
  simp only [V, hostOps0]
  after_results_simp
  rfl

/-- The conditioning rows are staged whole at every point. -/
theorem index0 : ∀ t : Fin grid0.N, win0_0.index t = ![0, 0] := by decide +kernel
/-- So the block is the array. -/
theorem blk0 : iblk m c 0 t = (m ((c : Thread nD τ).loc main_arg0) : FVec Ideal S4x1024 .f32) := by
  funext i
  show V m c main_arg0 ((win0_0.rect t).emb i) = _
  rw [V_main_arg0]
  congr 1
  funext a
  exact Fin.ext (win0_0.rect_emb_val_of_index_zero t a (by rw [index0]; match a with | ⟨0, _⟩ => rfl | ⟨1, _⟩ => rfl) i)

/-- The weights move right one block of columns per point: -/
theorem index1 : ∀ t : Fin grid0.N, win0_1.index t = ![0, 0, t.val] := by decide +kernel
/-- the block at an index. -/
theorem blk1 (k : Fin 1024) (d : Fin 1152) : iblk m c 1 t (ix3 0 k d) = (m ((c : Thread nD τ).loc main_arg1) : FVec Ideal S1x1024x9216 .f32)
    (ix3 0 k ⟨1152 * t.val + d.val, by have := hN t; omega⟩) := by
  show V m c main_arg1 ((win0_1.rect t).emb (ix3 0 k d)) = _
  rw [V_main_arg1]
  congr 1
  funext a
  refine Fin.ext ((win0_1.rect_emb_val t _ a).trans ?_)
  rw [index1]
  match a with
  | ⟨0, _⟩ => rfl
  | ⟨1, _⟩ => show 0 * 1024 + k.val = k.val; omega
  | ⟨2, _⟩ => show t.val * 1152 + d.val = 1152 * t.val + d.val; omega

/-- The bias moves right with them: -/
theorem index2 : ∀ t : Fin grid0.N, win0_2.index t = ![0, t.val] := by decide +kernel
/-- the block at an index. -/
theorem blk2 (d : Fin 1152) : iblk m c 2 t (ix2 0 d) = (m ((c : Thread nD τ).loc main_arg2) : FVec Ideal S1x9216 .f32)
    (ix2 0 ⟨1152 * t.val + d.val, by have := hN t; omega⟩) := by
  show V m c main_v1 ((win0_2.rect t).emb (ix2 0 d)) = _
  rw [V_bias, shapeCast_shapeCast]
  congr 1
  funext a
  refine Fin.ext ((win0_2.rect_emb_val t _ a).trans ?_)
  rw [index2]
  match a with
  | ⟨0, _⟩ => rfl
  | ⟨1, _⟩ => show t.val * 1152 + d.val = 1152 * t.val + d.val; omega

/-- What the modulation computes: batch `b`'s row. -/
def spec (cond : FVec Ideal S4x1024 .f32) (w : FVec Ideal S1x1024x9216 .f32) (bias : FVec Ideal S1x9216 .f32) (b : Fin 4) : Row 9216 :=
  adaln (fun k => cond (ix2 b k)) (fun k d => w (ix3 0 k d)) (fun d => bias (ix2 0 d))

/-- The array the kernel is to leave. -/
def result : FVec Ideal S4x9216 .f32 := fun i =>
  spec (m ((c.tc : Thread nD τ).loc main_arg0)) (m ((c.tc : Thread nD τ).loc main_arg1)) (m ((c.tc : Thread nD τ).loc main_arg2)) (i 0) (i 1)

/-- The output moves right one block of columns per point, -/
theorem index5 : ∀ t : Fin grid0.N, win0_5.index t = ![0, t.val] := by decide +kernel
/-- which is where column `d` of point `t`'s block lies. -/
theorem emb5 (r : Fin 4) (d : Fin 1152) : (win0_5.rect t).emb (ix2 r d) = ix2 r ⟨1152 * t.val + d.val, by have := hN t; omega⟩ := by
  funext a
  refine Fin.ext ((win0_5.rect_emb_val t _ a).trans ?_)
  rw [index5]
  match a with
  | ⟨0, _⟩ => show 0 * 4 + r.val = r.val; omega
  | ⟨1, _⟩ => show t.val * 1152 + d.val = 1152 * t.val + d.val; omega

/-- The array after the run. -/
theorem final : (dats m 0 c).arrAt 5 cfg0.N = result m c :=
  (dats m 0 c).arrAt_eq_of_cover 5 (result m c)
    (fun t _ => by
      rw [Value.flushed5, out5_eq]
      funext y
      obtain ⟨r, d, rfl⟩ : ∃ (r : Fin 4) (d : Fin 1152), y = ix2 r d := ⟨y 0, y 1, by pointwise⟩
      show adaln (fun k => iblk m c 0 t (ix2 r k)) (fun k d => iblk m c 1 t (ix3 0 k d)) (fun d => iblk m c 2 t (ix2 0 d)) d
        = result m c ((win0_5.rect t).emb (ix2 r d))
      rw [emb5, blk0]
      simp only [blk1, blk2]
      rfl)
    (fun i => (cols_cover (B := 1152) (by rw [show cfg0.grid.N = 8 from N_0])
      (fun t => ((cfg0.win 5).blk t).view.set) (fun t r d _ => emb5 t r d ▸ View.emb_mem_set (v := ((cfg0.win 5).blk t).view) (ix2 r d)) i).imp
      fun t h => ⟨flush0_5 t, h⟩)

/-! ## The weights rounded for the first sublayer: each point's output is its share of the rows. -/

/-- Where the rows point `t` rounds of the first weight come from, -/
theorem index3 : ∀ t : Fin grid0.N, win0_3.index t = ![0, t.val, 0] := by decide +kernel
/-- and where they go. -/
theorem index6 : ∀ t : Fin grid0.N, win0_6.index t = ![t.val, 0] := by decide +kernel

/-- Point `t`'s rows of the first weight. -/
theorem blk3 (r : Fin 128) (d : Fin 5632) : iblk m c 3 t (ix3 0 r d) = (m ((c : Thread nD τ).loc main_arg3) : FVec Ideal S1x1024x5632 .f32)
    (ix3 0 ⟨128 * t.val + r.val, by have := hN t; omega⟩ d) := by
  show V m c main_arg3 ((win0_3.rect t).emb (ix3 0 r d)) = _
  rw [V_main_arg3]
  congr 1
  funext a
  refine Fin.ext ((win0_3.rect_emb_val t _ a).trans ?_)
  rw [index3]
  match a with
  | ⟨0, _⟩ => rfl
  | ⟨1, _⟩ => show t.val * 128 + r.val = 128 * t.val + r.val; omega
  | ⟨2, _⟩ => show 0 * 5632 + d.val = d.val; omega

/-- Where row `r` of point `t`'s rounded rows lies in the array. -/
theorem emb6 (r : Fin 128) (d : Fin 5632) : (win0_6.rect t).emb (ix2 r d) = ix2 ⟨128 * t.val + r.val, by have := hN t; omega⟩ d := by
  funext a
  refine Fin.ext ((win0_6.rect_emb_val t _ a).trans ?_)
  rw [index6]
  match a with
  | ⟨0, _⟩ => show t.val * 128 + r.val = 128 * t.val + r.val; omega
  | ⟨1, _⟩ => show 0 * 5632 + d.val = d.val; omega

/-- The first weight without its leading axis. -/
def weight6 : FVec Ideal S1024x5632 .bf16 := fun i => (m ((c.tc : Thread nD τ).loc main_arg3) : FVec Ideal S1x1024x5632 .f32) (ix3 0 (i 0) (i 1))

/-- The array after the run holds it. -/
theorem final6 : (dats m 0 c).arrAt 6 cfg0.N = weight6 m c :=
  (dats m 0 c).arrAt_eq_of_cover 6 (weight6 m c)
    (fun t _ => by
      rw [Value.flushed6, out6_eq]
      funext y
      obtain ⟨r, d, rfl⟩ : ∃ (r : Fin 128) (d : Fin 5632), y = ix2 r d := ⟨y 0, y 1, by pointwise⟩
      show iblk m c 3 t (ix3 0 r d) = weight6 m c ((win0_6.rect t).emb (ix2 r d))
      rw [emb6, blk3]
      rfl)
    (fun i => (rows_cover (B := 128) (by rw [show cfg0.grid.N = 8 from N_0])
      (fun t => ((cfg0.win 6).blk t).view.set) (fun t r d _ => emb6 t r d ▸ View.emb_mem_set (v := ((cfg0.win 6).blk t).view) (ix2 r d)) i).imp
      fun t h => ⟨flush0_6 t, h⟩)

/-- Where the rows point `t` rounds of the second weight come from, -/
theorem index4 : ∀ t : Fin grid0.N, win0_4.index t = ![0, t.val, 0] := by decide +kernel
/-- and where they go. -/
theorem index7 : ∀ t : Fin grid0.N, win0_7.index t = ![t.val, 0] := by decide +kernel

/-- Point `t`'s rows of the second weight. -/
theorem blk4 (r : Fin 352) (d : Fin 1024) : iblk m c 4 t (ix3 0 r d) = (m ((c : Thread nD τ).loc main_arg4) : FVec Ideal S1x2816x1024 .f32)
    (ix3 0 ⟨352 * t.val + r.val, by have := hN t; omega⟩ d) := by
  show V m c main_arg4 ((win0_4.rect t).emb (ix3 0 r d)) = _
  rw [V_main_arg4]
  congr 1
  funext a
  refine Fin.ext ((win0_4.rect_emb_val t _ a).trans ?_)
  rw [index4]
  match a with
  | ⟨0, _⟩ => rfl
  | ⟨1, _⟩ => show t.val * 352 + r.val = 352 * t.val + r.val; omega
  | ⟨2, _⟩ => show 0 * 1024 + d.val = d.val; omega

/-- Where row `r` of point `t`'s rounded rows lies in the array. -/
theorem emb7 (r : Fin 352) (d : Fin 1024) : (win0_7.rect t).emb (ix2 r d) = ix2 ⟨352 * t.val + r.val, by have := hN t; omega⟩ d := by
  funext a
  refine Fin.ext ((win0_7.rect_emb_val t _ a).trans ?_)
  rw [index7]
  match a with
  | ⟨0, _⟩ => show t.val * 352 + r.val = 352 * t.val + r.val; omega
  | ⟨1, _⟩ => show 0 * 1024 + d.val = d.val; omega

/-- The second weight without its leading axis. -/
def weight7 : FVec Ideal S2816x1024 .bf16 := fun i => (m ((c.tc : Thread nD τ).loc main_arg4) : FVec Ideal S1x2816x1024 .f32) (ix3 0 (i 0) (i 1))

/-- The array after the run holds it. -/
theorem final7 : (dats m 0 c).arrAt 7 cfg0.N = weight7 m c :=
  (dats m 0 c).arrAt_eq_of_cover 7 (weight7 m c)
    (fun t _ => by
      rw [Value.flushed7, out7_eq]
      funext y
      obtain ⟨r, d, rfl⟩ : ∃ (r : Fin 352) (d : Fin 1024), y = ix2 r d := ⟨y 0, y 1, by pointwise⟩
      show iblk m c 4 t (ix3 0 r d) = weight7 m c ((win0_7.rect t).emb (ix2 r d))
      rw [emb7, blk4]
      rfl)
    (fun i => (rows_cover (B := 352) (by rw [show cfg0.grid.N = 8 from N_0])
      (fun t => ((cfg0.win 7).blk t).view.set) (fun t r d _ => emb7 t r d ▸ View.emb_mem_set (v := ((cfg0.win 7).blk t).view) (ix2 r d)) i).imp
      fun t h => ⟨flush0_7 t, h⟩)

end Cert.AdaIdeal.Whole

end
-- ==== Proof.AdaClaims.lean ====
/-
  The claims of the modulation.
-/
module

public import proofs.«01_k».proof.Defs
public import proofs.«01_k».proof.Proof.Ada
public import proofs.«01_k».proof.Proof.Gen.Ada.Frame
public import proofs.«01_k».proof.Proof.Gen.AdaRefIdeal.Run
public import Idealize.ShloMosaic.Lib.Quiescent

@[expose] public section

noncomputable section

namespace Cert.AdaRefIdeal.Read

open Cert.AdaRefIdeal Cert.AdaRefIdeal.Gen Cert.Rows Idealize.ShloMosaic Idealize.ShloMosaic.TcCoe Idealize.SL.Sem

/-- The reference's first result, as its run states it, is the modulation's rows. -/
theorem res_eq (cond : FVec Ideal S4x1024 .f32) (w : FVec Ideal S1x1024x9216 .f32) (bias : FVec Ideal S1x9216 .f32) :
    (addf (Host.dotGeneral dot_S4x1024_S1024x9216_S4x9216_1_0_0_1_n_n none
        (mulf cond (Host.divf (broadcastInDim S4x1024 ![] bcast_S_S4x1024 (constant S_ .f32 0x3F800000#32))
          (addf (broadcastInDim S4x1024 ![] bcast_S_S4x1024 (constant S_ .f32 0x3F800000#32)) (Host.exp (Host.negf cond)))))
        (shapeCast S1024x9216 w shapeCasts_S1x1024x9216_S1024x9216))
      (broadcastInDim S4x9216 ![0, 1] bcast_S1x9216_S4x9216_0_1
        (broadcastInDim S1x9216 ![1] bcast_S9216_S1x9216_1 (shapeCast S9216 bias shapeCasts_S1x9216_S9216))) : FVec Ideal S4x9216 .f32)
      = fun i : S4x9216.Idx => Cert.AdaIdeal.Whole.spec cond w bias (i 0) (i 1) := by
  funext i
  pointwise [Cert.AdaIdeal.Whole.spec, adaln, times, silu]

end Cert.AdaRefIdeal.Read

namespace Cert.Proof

open Idealize.ShloMosaic Idealize.ShloMosaic.TcCoe Idealize.SL.Sem Cert.AdaIdeal.Whole Cert.Tiles

/-- The kernel's and the reference's three results are the same functions of the same arguments. -/
theorem ada_algebraic : Cert.algebraic_AdaIdeal_AdaRefIdeal := fun m ρ m' ρ' _ hag =>
  ⟨fun c => result m c, fun c => weight6 m c, fun c => weight7 m c,
    (θ_run _ _ _).mono (fun _ h c => by
      obtain ⟨e0, e1, e2, rest⟩ := h c
      exact ⟨e0.trans (final m c), e1.trans (final6 m c), e2.trans (final7 m c), rest⟩) (Cert.AdaIdeal.Value.run_blocks (F := Ideal) m ρ),
    (θ_run _ _ _).mono (fun _ h c => by
      obtain ⟨e0, e1, e2, rest⟩ := h c
      obtain ⟨h0, h1, h2, h3, h4⟩ := hag c
      refine ⟨e0.trans ?_, e1.trans ?_, e2.trans ?_, rest⟩
      · refine (Cert.AdaRefIdeal.Read.res_eq _ _ _).trans ?_
        rw [h0, h1, h2]; rfl
      · rw [h3]; exact weight_at _ _ _
      · rw [h4]; exact weight_at _ _ _) (Cert.AdaRefIdeal.Value.run (F := Ideal) m' ρ')⟩

/-- The reference's run leaves its arguments as they were. -/
theorem ada_ref_frame : Cert.quiescent_AdaRefIdeal := fun m ρ _ =>
  (θ_run _ _ _).mono (fun r h => ⟨fun c => (h c).2.2.2, sem_eq_zero_of_no_sems rfl r.2⟩) (Cert.AdaRefIdeal.Value.run (F := Ideal) m ρ)

end Cert.Proof

end
-- ==== Proof.FfnRows.lean ====
/-
  THE FEED-FORWARD BODIES' SCRATCH ARRAYS as functions of the point's input blocks. Both feed-forward calls work on a block of
  1024 tokens in two sub tiles of 512 rows through the same three scratch arrays; they differ in the gain row `p` and in the
  modulation rows `sh`, `sc`, `ga` (shift, scale, gate) they read.
-/
module

public import proofs.«01_k».proof.Proof.Rows

@[expose] public section

noncomputable section

namespace Cert.FfnRows

open Cert.Rows Idealize.ShloMosaic

variable (p : Fin 3) (sh sc ga : Fin 9)
  (x0 : Vec Ideal ⟨2, ![1024, 1024]⟩ .f32) (x1 : Vec Ideal ⟨3, ![1, 9, 1024]⟩ .f32) (x2 x3 : Vec Ideal ⟨2, ![3, 1024]⟩ .f32)
  (x4 : Vec Ideal ⟨2, ![1024, 5632]⟩ .bf16) (x5 : Vec Ideal ⟨2, ![2816, 1024]⟩ .bf16)

/-- Row `512 s + r` of the block of tokens. -/
def xRow (s : Fin 2) (r : Fin 512) : Row 1024 := fun d => x0 (ix2 ⟨512 * s.val + r.val, by omega⟩ d)

/-- The first sub tile's rows are the block's first 512. -/
theorem xRow_zero (r : Fin 512) : xRow x0 0 r = fun d => x0 (ix2 ⟨r.val, by omega⟩ d) := by
  funext d; pointwise [xRow]

/-- The second sub tile's rows are the block's last 512. -/
theorem xRow_one (r : Fin 512) : xRow x0 1 r = fun d => x0 (ix2 ⟨512 + r.val, by omega⟩ d) := by
  funext d; pointwise [xRow]

/-- The modulated row the sub tile `s` keeps at `r`. -/
def hRow (s : Fin 2) (r : Fin 512) : Row 1024 :=
  modulated (xRow x0 s r) (fun d => x2 (ix2 p d)) (fun d => x1 (ix3 0 sc d)) (fun d => x1 (ix3 0 sh d))

/-- The gated row. -/
def aRow (s : Fin 2) (r : Fin 512) : Row 2816 := swiglu (hRow p sh sc x0 x1 x2 s r) fun i j => x4 (ix2 i j)

/-- The branch's row before its norm. -/
def yRow (s : Fin 2) (r : Fin 512) : Row 1024 := times (aRow p sh sc x0 x1 x2 x4 s r) fun i j => x5 (ix2 i j)

/-- The scratch of modulated rows, as one function of its index. -/
def hBuf : Vec Ideal ⟨3, ![2, 512, 1024]⟩ .bf16 := fun i => hRow p sh sc x0 x1 x2 (i 0) (i 1) (i 2)

/-- The scratch of gated rows. -/
def aBuf : Vec Ideal ⟨3, ![2, 512, 2816]⟩ .bf16 := fun i => aRow p sh sc x0 x1 x2 x4 (i 0) (i 1) (i 2)

/-- The scratch of branch rows. -/
def yBuf : Vec Ideal ⟨3, ![2, 512, 1024]⟩ .f32 := fun i => yRow p sh sc x0 x1 x2 x4 x5 (i 0) (i 1) (i 2)

/-- One row of the sublayer from a block of tokens and its modulation rows. -/
def outRow (r : Fin 1024) : Row 1024 :=
  ffn (fun d => x0 (ix2 r d)) (fun d => x2 (ix2 p d)) (fun d => x3 (ix2 p d)) (fun d => x1 (ix3 0 sh d)) (fun d => x1 (ix3 0 sc d))
    (fun d => x1 (ix3 0 ga d)) (fun i j => x4 (ix2 i j)) (fun i j => x5 (ix2 i j))

end Cert.FfnRows

end
-- ==== Proof.Pieces.lean ====
/-
  Buffers written piece by piece, read back: when every piece a run stored agrees with ONE function of the buffer's index, a load
  the pieces cover reads that function.
-/
module

public import Idealize.ShloMosaic.Lib.Pipeline.Value
public import Idealize.ShloMosaic.Lib.Pointwise

@[expose] public section

noncomputable section

namespace Cert.Pieces

open Idealize.ShloMosaic

variable {Val : EltTy → Type} {s : Shape} {e : EltTy}

/-- Every piece of the list holds, at each of its own indices, the value of `G` at the index of the whole buffer. -/
structure Agrees (G : s.Idx → Val e) (L : List (View.Piece Val s e)) : Prop where
  /-- piece by piece, index by index -/
  of_mem : ∀ p ∈ L, ∀ x : p.1.shape.Idx, p.2 x = G (p.1.emb x)

/-- Nothing stored agrees with anything. -/
theorem agrees_nil (G : s.Idx → Val e) : Agrees G ([] : List (View.Piece Val s e)) := ⟨fun _ h => by simp at h⟩

/-- One more piece that agrees. -/
theorem agrees_cons {G : s.Idx → Val e} {r : Rect s} {w : r.shape.Idx → Val e} {L : List (View.Piece Val s e)}
    (h : ∀ x : r.shape.Idx, w x = G (r.idx x)) (hL : Agrees G L) : Agrees G (⟨r, w⟩ :: L) := by
  refine ⟨fun p hp => ?_⟩
  rcases List.mem_cons.mp hp with rfl | hp
  · exact h
  · exact hL.of_mem p hp

/-- A load of a box the agreeing pieces cover reads the function. -/
theorem readCov_of_agrees [∀ e, Nonempty (Val e)] {sig : RefSig} {κ : Kind} {sp : Space} (v : View sig κ sp s e)
    {G : s.Idx → Val e} {L : List (View.Piece Val s e)} (hL : Agrees G L) (B : LoadRect s)
    (hc : ∀ j : B.shape.Idx, ∃ p ∈ L, B.idx j ∈ p.1.set) : v.readCov L B = fun j => G (B.idx j) := by
  rw [View.readCov_eq_canon v L B hc]
  exact funext fun j => View.canon_apply_of_pieces G L hL.of_mem _ (hc j)

/-- An output buffer read whole after agreeing pieces that cover it. -/
theorem read_writes_of_agrees [∀ e, Nonempty (Val e)] {sig : RefSig} {κ : Kind} {sp : Space} (v : View sig κ sp s e)
    (f : v.ty.Contents Val) {G : s.Idx → Val e} {L : List (View.Piece Val s e)} (hL : Agrees G L)
    (hc : ∀ y, ∃ p ∈ L, y ∈ p.1.set) : v.read Val (v.writes Val f L) = G := by
  rw [View.read_writes_eq_canon v f L hc]
  exact funext fun y => View.canon_apply_of_pieces G L hL.of_mem y (hc y)

/-- Covered by the first piece. -/
theorem cover_head {r : Rect s} {w : r.shape.Idx → Val e} {L : List (View.Piece Val s e)} {y : s.Idx} (h : y ∈ r.set) :
    ∃ p ∈ (⟨r, w⟩ :: L : List (View.Piece Val s e)), y ∈ p.1.set := ⟨_, List.mem_cons_self, h⟩

/-- Covered by a later piece. -/
theorem cover_tail {p₀ : View.Piece Val s e} {L : List (View.Piece Val s e)} {y : s.Idx} (h : ∃ p ∈ L, y ∈ p.1.set) :
    ∃ p ∈ p₀ :: L, y ∈ p.1.set := by
  obtain ⟨p, hp, hy⟩ := h
  exact ⟨p, List.mem_cons_of_mem _ hp, hy⟩

/-- An index of a rank-3 buffer is in a unit-stride box when each of its three coordinates is. -/
theorem mem_unit3 {n0 n1 n2 : Nat} {off size : Fin 3 → Nat} {inb} {y : (⟨3, ![n0, n1, n2]⟩ : Shape).Idx} :
    y ∈ (Rect.unit (s := ⟨3, ![n0, n1, n2]⟩) off size inb).set ↔
      (off 0 ≤ (y 0 : Nat) ∧ (y 0 : Nat) < off 0 + size 0) ∧ (off 1 ≤ (y 1 : Nat) ∧ (y 1 : Nat) < off 1 + size 1)
        ∧ (off 2 ≤ (y 2 : Nat) ∧ (y 2 : Nat) < off 2 + size 2) := by
  rw [Rect.mem_set_unit]
  exact ⟨fun h => ⟨h 0, h 1, h 2⟩, fun h a => match a with | 0 => h.1 | 1 => h.2.1 | 2 => h.2.2⟩

end Cert.Pieces

end
-- ==== Proof.Ffn1Block.lean ====
/-
  ONE GRID POINT of the first sublayer's kernel: what its body leaves in the output block is, row by row, the row function of the
  specification of the point's input blocks. The body works in two sub tiles of 512 rows through three scratch arrays (modulated
  rows, gated rows, branch rows), the gated rows in eleven column tiles of 256. Each scratch is ONE function of its index
  (`hBuf`, `aBuf`, `yBuf`): every store into it writes that function's values, so every later load reads them.
-/
module

public import proofs.«01_k».proof.Proof.Gen.Ffn1Ideal.Value
public import proofs.«01_k».proof.Proof.FfnRows
public import proofs.«01_k».proof.Proof.Pieces

@[expose] public section

noncomputable section

namespace Cert.Ffn1Ideal.Block

open Cert.Ffn1Ideal Cert.Ffn1Ideal.Gen Cert.Rows Cert.FfnRows Cert.Pieces Idealize.ShloMosaic Idealize.ShloMosaic.TcCoe Idealize.SL.Sem

variable (x0 : Vec Ideal S1024x1024 .f32) (x1 : Vec Ideal S1x9x1024 .f32) (x2 x3 : Vec Ideal S3x1024 .f32)
  (x4 : Vec Ideal S1024x5632 .bf16) (x5 : Vec Ideal S2816x1024 .bf16)

variable (c : Dev nD)
  (arg1 : Memref sig .tc .vmem S1024x1024 .f32) (harg1 : arg1.IsWhole)
  (arg2 : Memref sig .tc .vmem S1x9x1024 .f32) (harg2 : arg2.IsWhole)
  (arg3 : Memref sig .tc .vmem S3x1024 .f32) (harg3 : arg3.IsWhole)
  (arg4 : Memref sig .tc .vmem S3x1024 .f32) (harg4 : arg4.IsWhole)
  (arg5 : Memref sig .tc .vmem S1024x5632 .bf16) (harg5 : arg5.IsWhole)
  (arg6 : Memref sig .tc .vmem S2816x1024 .bf16) (harg6 : arg6.IsWhole)
  (arg18 : Memref sig .tc .vmem S2x512x1024 .bf16) (arg19 : Memref sig .tc .vmem S2x512x2816 .bf16)
  (arg20 : Memref sig .tc .vmem S2x512x1024 .f32)

/-- After its first store the scratch of modulated rows holds `hBuf` where written. -/
theorem hPieces0 : Agrees (hBuf 0 0 1 x0 x1 x2) (kernelRun0_A.sl.HS0_1 c arg1 harg1 arg2 harg2 arg3 harg3 x0 x1 x2) := by
  unfold kernelRun0_A.sl.HS0_1
  refine agrees_cons (fun x => ?_) (agrees_nil _)
  simp only [View.readAt_eq_ld, Memref.IsWhole.read_unread, kernelRun0_A.sl.r, kernelRun0_A.sl.r_1]
  unfold_payloads
  pointwise [hBuf, hRow, modulated, normed, invRms, xRow, mul_assoc]

/-- … and after its second. -/
theorem hPieces1 : Agrees (hBuf 0 0 1 x0 x1 x2) (kernelRun0_A.sl.HS0_2 c arg1 harg1 arg2 harg2 arg3 harg3 x0 x1 x2) := by
  unfold kernelRun0_A.sl.HS0_2
  refine agrees_cons (fun x => ?_) (hPieces0 ..)
  simp only [View.readAt_eq_ld, Memref.IsWhole.read_unread, kernelRun0_A.sl.r, kernelRun0_A.sl.r_1, kernelRun0_A.sl.r_2]
  unfold_payloads
  pointwise [hBuf, hRow, modulated, normed, invRms, xRow, mul_assoc]

/-- Loading slot 0 of the modulated rows, before the second store … -/
theorem v50_eq : kernelRun0_A.sl.v50 c arg1 harg1 arg2 harg2 arg3 harg3 arg18 x0 x1 x2 = fun j => hRow 0 0 1 x0 x1 x2 0 (j 1) (j 2) := by
  unfold kernelRun0_A.sl.v50
  rw [readCov_of_agrees _ (hPieces0 ..)]
  · funext j
    pointwise [hBuf]
  · intro j
    unfold kernelRun0_A.sl.HS0_1
    exact cover_head (LoadRect.idx_mem _ j)

/-- … and after it, gives the first sub tile's modulated rows; -/
theorem v188_eq : kernelRun0_A.sl.v188 c arg1 harg1 arg2 harg2 arg3 harg3 arg18 x0 x1 x2 = fun j => hRow 0 0 1 x0 x1 x2 0 (j 1) (j 2) := by
  unfold kernelRun0_A.sl.v188
  rw [readCov_of_agrees _ (hPieces1 ..)]
  · funext j
    pointwise [hBuf]
  · intro j
    unfold kernelRun0_A.sl.HS0_2 kernelRun0_A.sl.HS0_1
    exact cover_tail (cover_head (LoadRect.idx_mem _ j))

/-- loading slot 1 gives the second's. -/
theorem v290_eq : kernelRun0_A.sl.v290 c arg1 harg1 arg2 harg2 arg3 harg3 arg18 x0 x1 x2 = fun j => hRow 0 0 1 x0 x1 x2 1 (j 1) (j 2) := by
  unfold kernelRun0_A.sl.v290
  rw [readCov_of_agrees _ (hPieces1 ..)]
  · funext j
    pointwise [hBuf]
  · intro j
    unfold kernelRun0_A.sl.HS0_2
    exact cover_head (LoadRect.idx_mem _ j)

/-- The first sub tile's eleven stores of gated rows. -/
theorem aPieces0 : Agrees (aBuf 0 0 1 x0 x1 x2 x4)
    (kernelRun0_A.sl.HS1_11 c arg1 harg1 arg2 harg2 arg3 harg3 arg5 harg5 arg18 x0 x1 x2 x4) := by
  unfold kernelRun0_A.sl.HS1_11
  repeat' first | refine agrees_nil _ | refine agrees_cons (fun x => ?_) ?_
  all_goals
    simp only [kernelRun0_A.sl.r_4, kernelRun0_A.sl.r_5, kernelRun0_A.sl.r_6, kernelRun0_A.sl.r_7,
      kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15,
      kernelRun0_A.sl.cst_116, View.readAt_eq_ld,
      Memref.IsWhole.read_unread, v50_eq, v188_eq]
    unfold_payloads
    pointwise [aBuf, aRow, swiglu, silu, times, zero_sub, ← Nat.add_assoc]

/-- All twenty-two stores of gated rows. -/
theorem aPieces1 : Agrees (aBuf 0 0 1 x0 x1 x2 x4)
    (kernelRun0_A.sl.HS1_22 c arg1 harg1 arg2 harg2 arg3 harg3 arg5 harg5 arg18 x0 x1 x2 x4) := by
  unfold kernelRun0_A.sl.HS1_22
  repeat' first | exact aPieces0 .. | refine agrees_cons (fun x => ?_) ?_
  all_goals
    simp only [kernelRun0_A.sl.r_17, kernelRun0_A.sl.r_18, kernelRun0_A.sl.r_19, kernelRun0_A.sl.r_20,
      kernelRun0_A.sl.r_21, kernelRun0_A.sl.r_22, kernelRun0_A.sl.r_23, kernelRun0_A.sl.r_24,
      kernelRun0_A.sl.r_25, kernelRun0_A.sl.r_26, View.readAt_eq_ld,
      Memref.IsWhole.read_unread, v290_eq]
    unfold_payloads
    pointwise [aBuf, aRow, swiglu, silu, times, zero_sub, ← Nat.add_assoc]

/-- The first sub tile's eleven column tiles fill its slot. -/
theorem aCover0 (y : S2x512x2816.Idx) (hy : (y 0 : Nat) = 0) :
    ∃ p ∈ kernelRun0_A.sl.HS1_11 c arg1 harg1 arg2 harg2 arg3 harg3 arg5 harg5 arg18 x0 x1 x2 x4, y ∈ p.1.set := by
  have h1 : (y 1 : Nat) < 512 := (y 1).isLt
  have h2 : (y 2 : Nat) < 2816 := (y 2).isLt
  unfold kernelRun0_A.sl.HS1_11
  simp only [List.exists_mem_cons_iff, mem_unit3]
  pointwise
  omega

/-- The second sub tile's eleven column tiles fill the other slot. -/
theorem aCover1 (y : S2x512x2816.Idx) (hy : (y 0 : Nat) = 1) :
    ∃ p ∈ kernelRun0_A.sl.HS1_22 c arg1 harg1 arg2 harg2 arg3 harg3 arg5 harg5 arg18 x0 x1 x2 x4, y ∈ p.1.set := by
  have h1 : (y 1 : Nat) < 512 := (y 1).isLt
  have h2 : (y 2 : Nat) < 2816 := (y 2).isLt
  unfold kernelRun0_A.sl.HS1_22
  simp only [List.exists_mem_cons_iff, mem_unit3]
  pointwise
  omega

/-- Loading slot 0 of the gated rows gives the first sub tile's, -/
theorem v283_eq : kernelRun0_A.sl.v283 c arg1 harg1 arg2 harg2 arg3 harg3 arg5 harg5 arg18 arg19 x0 x1 x2 x4
    = fun j => aRow 0 0 1 x0 x1 x2 x4 0 (j 1) (j 2) := by
  unfold kernelRun0_A.sl.v283
  rw [readCov_of_agrees _ (aPieces0 ..)]
  · funext j
    pointwise [aBuf]
  · intro j
    exact aCover0 _ _ _ _ _ _ _ _ _ _ _ _ _ _ _ (by pointwise)

/-- loading slot 1 the second's. -/
theorem v522_eq : kernelRun0_A.sl.v522 c arg1 harg1 arg2 harg2 arg3 harg3 arg5 harg5 arg18 arg19 x0 x1 x2 x4
    = fun j => aRow 0 0 1 x0 x1 x2 x4 1 (j 1) (j 2) := by
  unfold kernelRun0_A.sl.v522
  rw [readCov_of_agrees _ (aPieces1 ..)]
  · funext j
    pointwise [aBuf]
  · intro j
    exact aCover1 _ _ _ _ _ _ _ _ _ _ _ _ _ _ _ (by pointwise)

/-- The first sub tile's store of branch rows. -/
theorem yPieces0 : Agrees (yBuf 0 0 1 x0 x1 x2 x4 x5)
    (kernelRun0_A.sl.HS2_1 c arg1 harg1 arg2 harg2 arg3 harg3 arg5 harg5 arg6 harg6 arg18 arg19 x0 x1 x2 x4 x5) := by
  unfold kernelRun0_A.sl.HS2_1
  refine agrees_cons (fun x => ?_) (agrees_nil _)
  simp only [View.readAt_eq_ld,
    Memref.IsWhole.read_unread, v283_eq]
  unfold_payloads
  pointwise [yBuf, yRow, times]

/-- Both stores of branch rows. -/
theorem yPieces1 : Agrees (yBuf 0 0 1 x0 x1 x2 x4 x5)
    (kernelRun0_A.sl.HS2_2 c arg1 harg1 arg2 harg2 arg3 harg3 arg5 harg5 arg6 harg6 arg18 arg19 x0 x1 x2 x4 x5) := by
  unfold kernelRun0_A.sl.HS2_2
  refine agrees_cons (fun x => ?_) (yPieces0 ..)
  simp only [View.readAt_eq_ld, Memref.IsWhole.read_unread, v522_eq]
  unfold_payloads
  pointwise [yBuf, yRow, times]

/-- Loading slot 0 of the branch rows gives the first sub tile's, -/
theorem v309_eq : kernelRun0_A.sl.v309 c arg1 harg1 arg2 harg2 arg3 harg3 arg5 harg5 arg6 harg6 arg18 arg19 arg20 x0 x1 x2 x4 x5
    = fun j => yRow 0 0 1 x0 x1 x2 x4 x5 0 (j 1) (j 2) := by
  unfold kernelRun0_A.sl.v309
  rw [readCov_of_agrees _ (yPieces0 ..)]
  · funext j
    pointwise [yBuf]
  · intro j
    unfold kernelRun0_A.sl.HS2_1
    exact cover_head (LoadRect.idx_mem _ j)

/-- loading slot 1 the second's. -/
theorem v529_eq : kernelRun0_A.sl.v529 c arg1 harg1 arg2 harg2 arg3 harg3 arg5 harg5 arg6 harg6 arg18 arg19 arg20 x0 x1 x2 x4 x5
    = fun j => yRow 0 0 1 x0 x1 x2 x4 x5 1 (j 1) (j 2) := by
  unfold kernelRun0_A.sl.v529
  rw [readCov_of_agrees _ (yPieces1 ..)]
  · funext j
    pointwise [yBuf]
  · intro j
    unfold kernelRun0_A.sl.HS2_2
    exact cover_head (LoadRect.idx_mem _ j)

variable (i : grid0.Coords)
  (arg7 : Memref sig .tc .vmem S1x64x5632 .f32) (harg7 : arg7.IsWhole)
  (arg8 : Memref sig .tc .vmem S1x32x1024 .f32) (harg8 : arg8.IsWhole)
  (arg9 : Memref sig .tc .vmem S1x64x1024 .f32) (harg9 : arg9.IsWhole)
  (arg10 : Memref sig .tc .vmem S1x64x1024 .f32) (harg10 : arg10.IsWhole)
  (arg11 : Memref sig .tc .vmem S1x176x1024 .f32) (harg11 : arg11.IsWhole)
  (arg12 : Memref sig .tc .vmem S1024x1024 .f32) (harg12 : arg12.IsWhole)
  (arg13 : Memref sig .tc .vmem S64x5632 .bf16) (harg13 : arg13.IsWhole)
  (arg14 : Memref sig .tc .vmem S32x1024 .bf16) (harg14 : arg14.IsWhole)
  (arg15 : Memref sig .tc .vmem S64x1024 .bf16) (harg15 : arg15.IsWhole)
  (arg16 : Memref sig .tc .vmem S64x1024 .bf16) (harg16 : arg16.IsWhole)
  (arg17 : Memref sig .tc .vmem S176x1024 .bf16) (harg17 : arg17.IsWhole)
  (harg18 : arg18.IsWhole) (harg19 : arg19.IsWhole) (harg20 : arg20.IsWhole)
  (x6 : Vec Ideal S1x64x5632 .f32) (x7 : Vec Ideal S1x32x1024 .f32) (x8 x9 : Vec Ideal S1x64x1024 .f32) (x10 : Vec Ideal S1x176x1024 .f32)

/-- THE BODY'S MAIN OUTPUT BLOCK, row by row: the two sub tiles' stores write the residual of the branch rows. -/
theorem out_eq :
    out0_A_11 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => outRow 0 0 1 2 x0 x1 x2 x3 x4 x5 (j 0) (j 1) := by
  unfold out0_A_11
  refine read_writes_of_agrees _ _ ?_ (fun y => cover0_A_11 ..)
  unfold kernelRun0_A
  refine agrees_cons (fun x => ?_) (agrees_cons (fun x => ?_) (agrees_nil _))
  all_goals
    simp only [kernelRun0_A.sl.r_3, kernelRun0_A.sl.r_16, kernelRun0_A.sl.r_27,
      View.readAt_eq_ld, Memref.IsWhole.read_unread, v309_eq, v529_eq]
    unfold_payloads
    pointwise [outRow, ffn, halfResidual, normed, invRms, yRow, aRow, hRow, xRow_zero, xRow_one]

/-- The first weight block this body rounds for a later call. -/
theorem cast12_eq :
    out0_A_12 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => x6 (ix3 0 (j 0) (j 1)) := by
  unfold out0_A_12
  refine read_writes_of_agrees _ _ ?_ (fun y => cover0_A_12 ..)
  unfold kernelRun0_A
  refine agrees_cons (fun x => ?_) (agrees_nil _)
  simp only [View.readAt_eq_ld, Memref.IsWhole.read_unread]
  unfold_payloads
  pointwise

/-- The second weight block this body rounds for a later call. -/
theorem cast13_eq :
    out0_A_13 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => x7 (ix3 0 (j 0) (j 1)) := by
  unfold out0_A_13
  refine read_writes_of_agrees _ _ ?_ (fun y => cover0_A_13 ..)
  unfold kernelRun0_A
  refine agrees_cons (fun x => ?_) (agrees_nil _)
  simp only [View.readAt_eq_ld, Memref.IsWhole.read_unread]
  unfold_payloads
  pointwise

/-- The third weight block this body rounds for a later call. -/
theorem cast14_eq :
    out0_A_14 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => x8 (ix3 0 (j 0) (j 1)) := by
  unfold out0_A_14
  refine read_writes_of_agrees _ _ ?_ (fun y => cover0_A_14 ..)
  unfold kernelRun0_A
  refine agrees_cons (fun x => ?_) (agrees_nil _)
  simp only [View.readAt_eq_ld, Memref.IsWhole.read_unread]
  unfold_payloads
  pointwise

/-- The fourth weight block this body rounds for a later call. -/
theorem cast15_eq :
    out0_A_15 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => x9 (ix3 0 (j 0) (j 1)) := by
  unfold out0_A_15
  refine read_writes_of_agrees _ _ ?_ (fun y => cover0_A_15 ..)
  unfold kernelRun0_A
  refine agrees_cons (fun x => ?_) (agrees_nil _)
  simp only [View.readAt_eq_ld, Memref.IsWhole.read_unread]
  unfold_payloads
  pointwise

/-- The fifth weight block this body rounds for a later call. -/
theorem cast16_eq :
    out0_A_16 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      x0 x1 x2 x3 x4 x5 x6 x7 x8 x9 x10
      = fun j => x10 (ix3 0 (j 0) (j 1)) := by
  unfold out0_A_16
  refine read_writes_of_agrees _ _ ?_ (fun y => cover0_A_16 ..)
  unfold kernelRun0_A
  refine agrees_cons (fun x => ?_) (agrees_nil _)
  simp only [View.readAt_eq_ld, Memref.IsWhole.read_unread]
  unfold_payloads
  pointwise

end Cert.Ffn1Ideal.Block

end
-- ==== Proof.RefTerms.lean ====
/-
  THE REFERENCES' STAGES, read at an index. A reference prints as one long term of host operations over (4, 4096, ·) arrays;
  here are its stages as functions of their inputs — the norm, a gain row, a batch's modulation row, the modulated input, the
  matrix products, the gated activation, the residual — each with the extended real it holds at `(b, r, d)`.
  The references of all the sublayers are compositions of these.
-/
module

public import proofs.«01_k».proof.Proof.Gen.Ffn2RefIdeal.Run
public import proofs.«01_k».proof.Proof.Rows

@[expose] public section

noncomputable section

namespace Cert.RefTerms

open Cert.Ffn2RefIdeal Cert.Ffn2RefIdeal.Gen Cert.Rows Idealize.ShloMosaic Idealize.ShloMosaic.TcCoe Idealize.SL.Sem

/-- The (4, 4096, 1024) arrays of extended reals. -/
abbrev Seq := FVec Ideal S4x4096x1024 .f32

/-- Row `r` of batch `b`. -/
def at3 (x : Seq) (b : Fin 4) (r : Fin 4096) : Row 1024 := fun d => x (ix3 b r d)

/-- The row at a feature. -/
theorem at3_apply (x : Seq) (b : Fin 4) (r : Fin 4096) (d : Fin 1024) : at3 x b r d = x (ix3 b r d) := rfl

/-- The norm's factor, spread over the features. -/
def rmsT (x : Seq) : Seq :=
  broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))

/-- A gain row spread over batches and tokens. -/
def gainT (g : FVec Ideal S1x1024 .f32) : Seq :=
  broadcastInDim S4x4096x1024 ![0, 1, 2] bcast_S1x1x1024_S4x4096x1024_0_1_2 (broadcastInDim S1x1x1024 ![2] bcast_S1024_S1x1x1024_2 (shapeCast _ g shapeCasts_S1x1024_S1024))

/-- One modulation row per batch. -/
def modT (y : FVec Ideal S4x1x1x1024 .f32) : FVec Ideal S4x1x1024 .f32 :=
  broadcastInDim S4x1x1024 ![0, 2] bcast_S4x1024_S4x1x1024_0_2 (shapeCast _ y shapeCasts_S4x1x1x1024_S4x1024)

/-- A constant row per batch. -/
def constT (w : BitVec 32) : FVec Ideal S4x1x1024 .f32 := broadcastInDim S4x1x1024 ![] bcast_S_S4x1x1024 (constant S_ .f32 w)

/-- A row per batch spread over the tokens. -/
def spreadT (y : FVec Ideal S4x1x1024 .f32) : Seq := broadcastInDim S4x4096x1024 ![0, 1, 2] bcast_S4x1x1024_S4x4096x1024_0_1_2 y

/-- The normalised and modulated input. -/
def hT (x : Seq) (shift scale : FVec Ideal S4x1x1x1024 .f32) (g : FVec Ideal S1x1024 .f32) : Seq :=
  addf (mulf (mulf (mulf x (rmsT x)) (gainT g)) (spreadT (addf (constT 0x3F800000#32) (modT scale)))) (spreadT (modT shift))

/-- The gate-and-up product. -/
def guT (h : Seq) (w : FVec Ideal S1024x5632 .bf16) : FVec Ideal S4x4096x5632 .f32 :=
  Host.dotGeneral (F := Ideal) dot_S4x4096x1024_S1024x5632_S4x4096x5632_2_0_01_1_n_n none h (extf (F := Ideal) .f32 w bitsLt_bf16_f32)

/-- The gated activation. -/
def actT (gu : FVec Ideal S4x4096x5632 .f32) : FVec Ideal S4x4096x2816 .f32 :=
  (mulf (mulf (extractStridedSlice S4x4096x2816 ![0, 0, 0] gu slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] gu slices_S4x4096x5632_S4x4096x2816_0_0_0))))))
   (extractStridedSlice S4x4096x2816 ![0, 0, 2816] gu slices_S4x4096x5632_S4x4096x2816_0_0_2816))

/-- The down product. -/
def downT (a : FVec Ideal S4x4096x2816 .f32) (w : FVec Ideal S2816x1024 .bf16) : Seq :=
  Host.dotGeneral (F := Ideal) dot_S4x4096x2816_S2816x1024_S4x4096x1024_2_0_01_1_n_n none a (extf (F := Ideal) .f32 w bitsLt_bf16_f32)

/-- The half-step residual. -/
def resT (x y : Seq) (gate : FVec Ideal S4x1x1x1024 .f32) (g : FVec Ideal S1x1024 .f32) : Seq :=
  addf x (mulf (spreadT (mulf (constT 0x3F000000#32) (modT gate))) (mulf (mulf y (rmsT y)) (gainT g)))

/-- The whole feed-forward sublayer. -/
def ffnT (x : Seq) (shift scale gate : FVec Ideal S4x1x1x1024 .f32) (pre post : FVec Ideal S1x1024 .f32)
    (wGu : FVec Ideal S1024x5632 .bf16) (wDown : FVec Ideal S2816x1024 .bf16) : Seq :=
  resT x (downT (actT (guT (hT x shift scale pre) wGu)) wDown) gate post

variable (x y : Seq) (b : Fin 4) (r : Fin 4096)

/-- The norm's factor at a token. -/
theorem rmsT_at (d : Fin 1024) : rmsT x (ix3 b r d) = invRms (at3 x b r) := by unfold rmsT; pointwise [invRms, at3]

/-- The gain at a feature. -/
theorem gainT_at (g : FVec Ideal S1x1024 .f32) (d : Fin 1024) : gainT g (ix3 b r d) = g (ix2 0 d) := by unfold gainT; pointwise

/-- The modulation row at a feature. -/
theorem modT_at (z : FVec Ideal S4x1x1x1024 .f32) (k : Fin 1) (d : Fin 1024) : modT z (ix3 b k d) = z (ix4 b 0 0 d) := by
  unfold modT; pointwise

/-- A constant row at a feature. -/
theorem constT_at (w : BitVec 32) (k : Fin 1) (d : Fin 1024) : constT w (ix3 b k d) = Ideal.ofBits .f32 w := by
  unfold constT; pointwise

/-- A spread row at a token. -/
theorem spreadT_at (z : FVec Ideal S4x1x1024 .f32) (d : Fin 1024) : spreadT z (ix3 b r d) = z (ix3 b 0 d) := by
  unfold spreadT; pointwise

/-- The modulated input's row. -/
theorem hT_at (shift scale : FVec Ideal S4x1x1x1024 .f32) (g : FVec Ideal S1x1024 .f32) :
    at3 (hT x shift scale g) b r = modulated (at3 x b r) (fun d => g (ix2 0 d)) (fun d => scale (ix4 b 0 0 d)) (fun d => shift (ix4 b 0 0 d)) := by
  funext d; rw [at3_apply]; unfold hT
  pointwise [rmsT_at, gainT_at, spreadT_at, modT_at, constT_at, modulated, normed, at3_apply]

/-- The gate-and-up product of a token. -/
theorem guT_at (w : FVec Ideal S1024x5632 .bf16) (d : Fin 5632) :
    guT x w (ix3 b r d) = times (at3 x b r) (fun i j => w (ix2 i j)) d := by
  unfold guT; pointwise [times, at3]

/-- The gated activation of a token. -/
theorem actT_at (w : FVec Ideal S1024x5632 .bf16) (d : Fin 2816) :
    actT (guT x w) (ix3 b r d) = swiglu (at3 x b r) (fun i j => w (ix2 i j)) d := by
  unfold actT; pointwise [guT_at, swiglu, silu]

/-- The down product of a token. -/
theorem downT_at (a : FVec Ideal S4x4096x2816 .f32) (w : FVec Ideal S2816x1024 .bf16) :
    at3 (downT a w) b r = times (fun i => a (ix3 b r i)) (fun i j => w (ix2 i j)) := by
  funext d; unfold at3 downT; pointwise [times]

/-- The residual's row. -/
theorem resT_at (gate : FVec Ideal S4x1x1x1024 .f32) (g : FVec Ideal S1x1024 .f32) :
    at3 (resT x y gate g) b r = halfResidual (at3 x b r) (at3 y b r) (fun d => g (ix2 0 d)) (fun d => gate (ix4 b 0 0 d)) := by
  funext d; rw [at3_apply]; unfold resT
  pointwise [rmsT_at, gainT_at, spreadT_at, modT_at, constT_at, halfResidual, normed, at3_apply]

/-- The feed-forward sublayer's row is the row function of the specification. -/
theorem ffnT_at (shift scale gate : FVec Ideal S4x1x1x1024 .f32) (pre post : FVec Ideal S1x1024 .f32)
    (wGu : FVec Ideal S1024x5632 .bf16) (wDown : FVec Ideal S2816x1024 .bf16) :
    at3 (ffnT x shift scale gate pre post wGu wDown) b r =
      ffn (at3 x b r) (fun d => pre (ix2 0 d)) (fun d => post (ix2 0 d)) (fun d => shift (ix4 b 0 0 d)) (fun d => scale (ix4 b 0 0 d))
        (fun d => gate (ix4 b 0 0 d)) (fun i j => wGu (ix2 i j)) (fun i j => wDown (ix2 i j)) := by
  unfold ffnT ffn
  rw [resT_at, downT_at]
  simp only [actT_at, hT_at]

/-- A flat array of tokens as (4, 4096, 1024): row `r` of batch `b` is token `4096 b + r`. -/
theorem unflatten_at (z : FVec Ideal S16384x1024 .f32) :
    at3 (shapeCast S4x4096x1024 z shapeCasts_S16384x1024_S4x4096x1024) b r = fun d => z (ix2 ⟨b.val * 4096 + r.val, by omega⟩ d) := by
  funext d; unfold at3; pointwise

/-- The other way: token `n` is row `n % 4096` of batch `n / 4096`. -/
theorem flatten_at (n : Fin 16384) (d : Fin 1024) :
    shapeCast S16384x1024 x shapeCasts_S4x4096x1024_S16384x1024 (ix2 n d) = at3 x ⟨n.val / 4096, by omega⟩ ⟨n.val % 4096, by omega⟩ d := by
  unfold at3; pointwise

/-- Dividing a token by the batch's length and putting it together again. -/
theorem token (n : Fin 16384) : (⟨n.val / 4096 * 4096 + n.val % 4096, by omega⟩ : Fin 16384) = n := Fin.ext (by simp only; omega)

end Cert.RefTerms

end
-- ==== Proof.Ffn1Ref.lean ====
/-
  The first sublayer's reference: its first result, row by row, is the row function of the specification.
-/
module

public import proofs.«01_k».proof.Proof.RefTerms
public import proofs.«01_k».proof.Proof.Gen.Ffn1RefIdeal.Run

@[expose] public section

noncomputable section

namespace Cert.Ffn1RefIdeal.Read

open Cert.Ffn1RefIdeal Cert.Ffn1RefIdeal.Gen Cert.Rows Cert.RefTerms Idealize.ShloMosaic Idealize.ShloMosaic.TcCoe Idealize.SL.Sem

/-- What the sublayer computes from its six arguments: token `n` of the flat array belongs to batch `n / 4096`. -/
def spec (x : FVec Ideal S4x4096x1024 .f32) (md : FVec Ideal S4x3x3x1024 .f32) (pre post : FVec Ideal S3x1024 .f32)
    (wGu : FVec Ideal S1024x5632 .bf16) (wDown : FVec Ideal S2816x1024 .bf16) (n : Fin 16384) : Row 1024 :=
  ffn (fun d => x (ix3 ⟨n.val / 4096, by omega⟩ ⟨n.val % 4096, by omega⟩ d)) (fun d => pre (ix2 0 d)) (fun d => post (ix2 0 d)) (fun d => md (ix4 ⟨n.val / 4096, by omega⟩ 0 0 d))
    (fun d => md (ix4 ⟨n.val / 4096, by omega⟩ 0 1 d)) (fun d => md (ix4 ⟨n.val / 4096, by omega⟩ 0 2 d))
    (fun i j => wGu (ix2 i j)) (fun i j => wDown (ix2 i j))

/-- The reference's result holds it. -/
theorem res_eq (m : (ℓ : Loc nD τ sig) → Buf (Elt Ideal) ℓ) (c : Dev nD) :
    Value.res_main_v58 m c = fun i : S16384x1024.Idx =>
      spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (i 0) (i 1) := by
  have h : Value.res_main_v58 m c = shapeCast S16384x1024
      (ffnT (m ((c.tc : Thread nD τ).loc main_arg0))
        (extractStridedSlice S4x1x1x1024 ![0, 0, 0, 0] (m ((c.tc : Thread nD τ).loc main_arg1) : FVec Ideal S4x3x3x1024 .f32) slices_S4x3x3x1024_S4x1x1x1024_0_0_0_0)
        (extractStridedSlice S4x1x1x1024 ![0, 0, 1, 0] (m ((c.tc : Thread nD τ).loc main_arg1) : FVec Ideal S4x3x3x1024 .f32) slices_S4x3x3x1024_S4x1x1x1024_0_0_1_0)
        (extractStridedSlice S4x1x1x1024 ![0, 0, 2, 0] (m ((c.tc : Thread nD τ).loc main_arg1) : FVec Ideal S4x3x3x1024 .f32) slices_S4x3x3x1024_S4x1x1x1024_0_0_2_0)
        (extractStridedSlice S1x1024 ![0, 0] (m ((c.tc : Thread nD τ).loc main_arg2) : FVec Ideal S3x1024 .f32) slices_S3x1024_S1x1024_0_0)
        (extractStridedSlice S1x1024 ![0, 0] (m ((c.tc : Thread nD τ).loc main_arg3) : FVec Ideal S3x1024 .f32) slices_S3x1024_S1x1024_0_0)
        (m ((c.tc : Thread nD τ).loc main_arg4)) (m ((c.tc : Thread nD τ).loc main_arg5)))
      shapeCasts_S4x4096x1024_S16384x1024 := rfl
  rw [h]
  generalize m ((c.tc : Thread nD τ).loc main_arg0) = x
  generalize m ((c.tc : Thread nD τ).loc main_arg1) = md
  generalize m ((c.tc : Thread nD τ).loc main_arg2) = pre
  generalize m ((c.tc : Thread nD τ).loc main_arg3) = post
  generalize m ((c.tc : Thread nD τ).loc main_arg4) = wGu
  generalize m ((c.tc : Thread nD τ).loc main_arg5) = wDown
  funext i
  obtain ⟨n, d, rfl⟩ : ∃ (n : Fin 16384) (d : Fin 1024), i = ix2 n d := ⟨i 0, i 1, by pointwise⟩
  rw [flatten_at, ffnT_at]
  pointwise [spec, token]
  rfl

end Cert.Ffn1RefIdeal.Read

end
-- ==== Proof.Ffn1.lean ====
/-
  The first sublayer's kernel: the arrays it leaves. The main one holds, row by row, the row function of the specification;
  the other five hold weights a later call reads, each point rounding its share of the rows.
-/
module

public import proofs.«01_k».proof.Proof.Ffn1Block
public import proofs.«01_k».proof.Proof.Ffn1Ref
public import proofs.«01_k».proof.Proof.Tiles

@[expose] public section

noncomputable section

namespace Cert.Ffn1Ideal.Whole

open Cert.Ffn1Ideal Cert.Ffn1Ideal.Gen Cert.Rows Cert.Tiles Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The host's reshape before the call: the modulation array as nine rows of 1024 per batch. -/
theorem V_mod : V m c main_v1 = shapeCast S4x9x1024 (m ((c : Thread nD τ).loc main_arg1) : FVec Ideal S4x3x3x1024 .f32) shapeCasts_S4x3x3x1024_S4x9x1024 := by
  simp only [V, hostOps0]
  after_results_simp
  rfl

/-- Row `k` of the nine is row `k % 3` of sublayer `k / 3`. -/
theorem nine_at (x : FVec Ideal S4x3x3x1024 .f32) (b : Fin 4) (k : Fin 9) (d : Fin 1024) :
    shapeCast S4x9x1024 x shapeCasts_S4x3x3x1024_S4x9x1024 (ix3 b k d) = x (ix4 b ⟨k.val / 3, by omega⟩ ⟨k.val % 3, by omega⟩ d) := by
  pointwise

/-- The batch's modulation rows as the windows stage them. -/
theorem mod_at (b : Fin 4) (k : Fin 9) (d : Fin 1024) : V m c main_v1 (ix3 b k d)
    = (m ((c : Thread nD τ).loc main_arg1) : FVec Ideal S4x3x3x1024 .f32) (ix4 b ⟨k.val / 3, by omega⟩ ⟨k.val % 3, by omega⟩ d) :=
  (congrFun (V_mod m c) _).trans (nine_at _ b k d)

/-- The host's other reshape: the tokens of all batches, one below the other. -/
theorem V_tok : V m c main_v0 = shapeCast S16384x1024 (m ((c : Thread nD τ).loc main_arg0) : FVec Ideal S4x4096x1024 .f32) shapeCasts_S4x4096x1024_S16384x1024 := by
  simp only [V, hostOps0]
  after_results_simp
  rfl

/-- Row `n` of the flat array is token `n % 4096` of batch `n / 4096`. -/
theorem flat_at (x : FVec Ideal S4x4096x1024 .f32) (n : Fin 16384) (d : Fin 1024) :
    shapeCast S16384x1024 x shapeCasts_S4x4096x1024_S16384x1024 (ix2 n d) = x (ix3 ⟨n.val / 4096, by omega⟩ ⟨n.val % 4096, by omega⟩ d) := by
  pointwise

/-- The tokens as the windows stage them. -/
theorem tok_at (n : Fin 16384) (d : Fin 1024) : V m c main_v0 (ix2 n d)
    = (m ((c : Thread nD τ).loc main_arg0) : FVec Ideal S4x4096x1024 .f32) (ix3 ⟨n.val / 4096, by omega⟩ ⟨n.val % 4096, by omega⟩ d) :=
  (congrFun (V_tok m c) _).trans (flat_at _ n d)

/-- Window 0 moves down one block of tokens per point. -/
theorem index0 : ∀ t : Fin grid0.N, win0_0.index t = ![t.val, 0] := by decide +kernel
/-- Window 1 stays on a batch for four points. -/
theorem index1 : ∀ t : Fin grid0.N, win0_1.index t = ![t.val / 4, 0, 0] := by decide +kernel
/-- The whole array at every point. -/
theorem index2 : ∀ t : Fin grid0.N, win0_2.index t = ![0, 0] := by decide +kernel

/-- The grid has sixteen points. -/
theorem hN : t.val < 16 := N_0 ▸ t.isLt

/-- The block of tokens at an index. -/
theorem blk0 (r d : Fin 1024) : iblk m c 0 t (ix2 r d) = (m ((c : Thread nD τ).loc main_arg0) : FVec Ideal S4x4096x1024 .f32)
    (ix3 ⟨(1024 * t.val + r.val) / 4096, by have := hN t; omega⟩ ⟨(1024 * t.val + r.val) % 4096, by omega⟩ d) := by
  refine Eq.trans ?_ (tok_at m c ⟨1024 * t.val + r.val, by have := hN t; omega⟩ d)
  show V m c main_v0 ((win0_0.rect t).emb (ix2 r d)) = _
  congr 1
  funext a
  refine Fin.ext ((win0_0.rect_emb_val t _ a).trans ?_)
  rw [index0]
  match a with
  | ⟨0, _⟩ => show t.val * 1024 + r.val = 1024 * t.val + r.val; omega
  | ⟨1, _⟩ => show 0 * 1024 + d.val = d.val; omega

/-- The block of modulation rows at an index: the batch of point `t` is `t / 4`. -/
theorem blk1 (k : Fin 9) (d : Fin 1024) : iblk m c 1 t (ix3 0 k d) = (m ((c : Thread nD τ).loc main_arg1) : FVec Ideal S4x3x3x1024 .f32)
    (ix4 ⟨t.val / 4, by have := hN t; omega⟩ ⟨k.val / 3, by omega⟩ ⟨k.val % 3, by omega⟩ d) := by
  refine Eq.trans ?_ (mod_at m c ⟨t.val / 4, by have := hN t; omega⟩ k d)
  show V m c main_v1 ((win0_1.rect t).emb (ix3 0 k d)) = _
  congr 1
  funext a
  refine Fin.ext ((win0_1.rect_emb_val t _ a).trans ?_)
  rw [index1]
  match a with
  | ⟨0, _⟩ => show t.val / 4 * 1 + 0 = t.val / 4; omega
  | ⟨1, _⟩ => show 0 * 9 + k.val = k.val; omega
  | ⟨2, _⟩ => show 0 * 1024 + d.val = d.val; omega

/-- The input gains, whole. -/
theorem blk2 : iblk m c 2 t = (m ((c : Thread nD τ).loc main_arg2) : FVec Ideal S3x1024 .f32) := by
  funext i
  show V m c main_arg2 ((win0_2.rect t).emb i) = _
  rw [V_main_arg2]
  congr 1
  funext a
  exact Fin.ext (win0_2.rect_emb_val_of_index_zero t a (by rw [index2]; match a with | ⟨0, _⟩ => rfl | ⟨1, _⟩ => rfl) i)

/-- The whole array at every point. -/
theorem index3 : ∀ t : Fin grid0.N, win0_3.index t = ![0, 0] := by decide +kernel
/-- The whole array at every point. -/
theorem index4 : ∀ t : Fin grid0.N, win0_4.index t = ![0, 0] := by decide +kernel
/-- The whole array at every point. -/
theorem index5 : ∀ t : Fin grid0.N, win0_5.index t = ![0, 0] := by decide +kernel
/-- The output moves down one block of tokens per point. -/
theorem index11 : ∀ t : Fin grid0.N, win0_11.index t = ![t.val, 0] := by decide +kernel

/-- The output gains, whole. -/
theorem blk3 : iblk m c 3 t = (m ((c : Thread nD τ).loc main_arg3) : FVec Ideal S3x1024 .f32) := by
  funext i
  show V m c main_arg3 ((win0_3.rect t).emb i) = _
  rw [V_main_arg3]
  congr 1
  funext a
  exact Fin.ext (win0_3.rect_emb_val_of_index_zero t a (by rw [index3]; match a with | ⟨0, _⟩ => rfl | ⟨1, _⟩ => rfl) i)

/-- The gate-and-up weights, whole. -/
theorem blk4 : iblk m c 4 t = (m ((c : Thread nD τ).loc main_arg4) : FVec Ideal S1024x5632 .bf16) := by
  funext i
  show V m c main_arg4 ((win0_4.rect t).emb i) = _
  rw [V_main_arg4]
  congr 1
  funext a
  exact Fin.ext (win0_4.rect_emb_val_of_index_zero t a (by rw [index4]; match a with | ⟨0, _⟩ => rfl | ⟨1, _⟩ => rfl) i)

/-- The down weights, whole. -/
theorem blk5 : iblk m c 5 t = (m ((c : Thread nD τ).loc main_arg5) : FVec Ideal S2816x1024 .bf16) := by
  funext i
  show V m c main_arg5 ((win0_5.rect t).emb i) = _
  rw [V_main_arg5]
  congr 1
  funext a
  exact Fin.ext (win0_5.rect_emb_val_of_index_zero t a (by rw [index5]; match a with | ⟨0, _⟩ => rfl | ⟨1, _⟩ => rfl) i)

/-- The array the kernel is to leave: the specification's rows of the arguments. -/
def result : FVec Ideal S16384x1024 .f32 := fun i =>
  Cert.Ffn1RefIdeal.Read.spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (i 0) (i 1)

/-- Where row `r` of point `t`'s output block lies in the array. -/
theorem emb11 (r d : Fin 1024) : (win0_11.rect t).emb (ix2 r d) = ix2 ⟨1024 * t.val + r.val, by have := hN t; omega⟩ d := by
  funext a
  refine Fin.ext ((win0_11.rect_emb_val t _ a).trans ?_)
  rw [index11]
  match a with
  | ⟨0, _⟩ => show t.val * 1024 + r.val = 1024 * t.val + r.val; omega
  | ⟨1, _⟩ => show 0 * 1024 + d.val = d.val; omega

/-- What point `t` writes back is its block of `result`. -/
theorem flushed_eq : (dats m 0 c).flushed 11 t = (win0_11.blk t).view.read (Elt Ideal) (result m c) := by
  rw [Value.flushed11_A, Block.out_eq]
  funext y
  obtain ⟨r, d, rfl⟩ : ∃ (r d : Fin 1024), y = ix2 r d := ⟨y 0, y 1, by pointwise⟩
  show FfnRows.outRow 0 0 1 2 _ _ _ _ _ _ r d = result m c ((win0_11.rect t).emb (ix2 r d))
  rw [emb11]
  unfold FfnRows.outRow result Cert.Ffn1RefIdeal.Read.spec
  rw [blk2, blk3, blk4, blk5]
  simp only [blk0, blk1]
  have hb : (⟨(1024 * t.val + r.val) / 4096, by have := hN t; omega⟩ : Fin 4) = ⟨t.val / 4, by have := hN t; omega⟩ :=
    Fin.ext (by simp only; omega)
  pointwise [hb]

/-- The array after the run. -/
theorem final : (dats m 0 c).arrAt 11 cfg0.N = result m c :=
  (dats m 0 c).arrAt_eq_of_cover 11 (result m c) (fun t _ => flushed_eq m c t)
    (fun i => (rows_cover (B := 1024) (by rw [show cfg0.grid.N = 16 from N_0])
      (fun t => ((cfg0.win 11).blk t).view.set) (fun t r d _ => emb11 t r d ▸ View.emb_mem_set (v := ((cfg0.win 11).blk t).view) (ix2 r d)) i).imp
      fun t h => ⟨flush0_11 t, h⟩)

/-! ## The weights rounded for later calls: output `w` of point `t` is its share of the rows of the argument. -/

/-- Where the rows point `t` rounds of the first weight come from, -/
theorem index6 : ∀ t : Fin grid0.N, win0_6.index t = ![0, t.val, 0] := by decide +kernel
/-- and where they go. -/
theorem index12 : ∀ t : Fin grid0.N, win0_12.index t = ![t.val, 0] := by decide +kernel

/-- Point `t`'s rows of the first weight. -/
theorem blk6 (r : Fin 64) (d : Fin 5632) : iblk m c 6 t (ix3 0 r d) = (m ((c : Thread nD τ).loc main_arg6) : FVec Ideal S1x1024x5632 .f32)
    (ix3 0 ⟨64 * t.val + r.val, by have := hN t; omega⟩ d) := by
  show V m c main_arg6 ((win0_6.rect t).emb (ix3 0 r d)) = _
  rw [V_main_arg6]
  congr 1
  funext a
  refine Fin.ext ((win0_6.rect_emb_val t _ a).trans ?_)
  rw [index6]
  match a with
  | ⟨0, _⟩ => rfl
  | ⟨1, _⟩ => show t.val * 64 + r.val = 64 * t.val + r.val; omega
  | ⟨2, _⟩ => show 0 * 5632 + d.val = d.val; omega

/-- Where row `r` of point `t`'s rounded rows lies in the array. -/
theorem emb12 (r : Fin 64) (d : Fin 5632) : (win0_12.rect t).emb (ix2 r d) = ix2 ⟨64 * t.val + r.val, by have := hN t; omega⟩ d := by
  funext a
  refine Fin.ext ((win0_12.rect_emb_val t _ a).trans ?_)
  rw [index12]
  match a with
  | ⟨0, _⟩ => show t.val * 64 + r.val = 64 * t.val + r.val; omega
  | ⟨1, _⟩ => show 0 * 5632 + d.val = d.val; omega

/-- The first weight without its leading axis. -/
def weight12 : FVec Ideal S1024x5632 .bf16 := fun i => (m ((c.tc : Thread nD τ).loc main_arg6) : FVec Ideal S1x1024x5632 .f32) (ix3 0 (i 0) (i 1))

/-- The array after the run holds it. -/
theorem final12 : (dats m 0 c).arrAt 12 cfg0.N = weight12 m c :=
  (dats m 0 c).arrAt_eq_of_cover 12 (weight12 m c)
    (fun t _ => by
      rw [Value.flushed12_A, Block.cast12_eq]
      funext y
      obtain ⟨r, d, rfl⟩ : ∃ (r : Fin 64) (d : Fin 5632), y = ix2 r d := ⟨y 0, y 1, by pointwise⟩
      show iblk m c 6 t (ix3 0 r d) = weight12 m c ((win0_12.rect t).emb (ix2 r d))
      rw [emb12, blk6]
      rfl)
    (fun i => (rows_cover (B := 64) (by rw [show cfg0.grid.N = 16 from N_0])
      (fun t => ((cfg0.win 12).blk t).view.set) (fun t r d _ => emb12 t r d ▸ View.emb_mem_set (v := ((cfg0.win 12).blk t).view) (ix2 r d)) i).imp
      fun t h => ⟨flush0_12 t, h⟩)

/-- Where the rows point `t` rounds of the second weight come from, -/
theorem index7 : ∀ t : Fin grid0.N, win0_7.index t = ![0, t.val, 0] := by decide +kernel
/-- and where they go. -/
theorem index13 : ∀ t : Fin grid0.N, win0_13.index t = ![t.val, 0] := by decide +kernel

/-- Point `t`'s rows of the second weight. -/
theorem blk7 (r : Fin 32) (d : Fin 1024) : iblk m c 7 t (ix3 0 r d) = (m ((c : Thread nD τ).loc main_arg7) : FVec Ideal S1x512x1024 .f32)
    (ix3 0 ⟨32 * t.val + r.val, by have := hN t; omega⟩ d) := by
  show V m c main_arg7 ((win0_7.rect t).emb (ix3 0 r d)) = _
  rw [V_main_arg7]
  congr 1
  funext a
  refine Fin.ext ((win0_7.rect_emb_val t _ a).trans ?_)
  rw [index7]
  match a with
  | ⟨0, _⟩ => rfl
  | ⟨1, _⟩ => show t.val * 32 + r.val = 32 * t.val + r.val; omega
  | ⟨2, _⟩ => show 0 * 1024 + d.val = d.val; omega

/-- Where row `r` of point `t`'s rounded rows lies in the array. -/
theorem emb13 (r : Fin 32) (d : Fin 1024) : (win0_13.rect t).emb (ix2 r d) = ix2 ⟨32 * t.val + r.val, by have := hN t; omega⟩ d := by
  funext a
  refine Fin.ext ((win0_13.rect_emb_val t _ a).trans ?_)
  rw [index13]
  match a with
  | ⟨0, _⟩ => show t.val * 32 + r.val = 32 * t.val + r.val; omega
  | ⟨1, _⟩ => show 0 * 1024 + d.val = d.val; omega

/-- The second weight without its leading axis. -/
def weight13 : FVec Ideal S512x1024 .bf16 := fun i => (m ((c.tc : Thread nD τ).loc main_arg7) : FVec Ideal S1x512x1024 .f32) (ix3 0 (i 0) (i 1))

/-- The array after the run holds it. -/
theorem final13 : (dats m 0 c).arrAt 13 cfg0.N = weight13 m c :=
  (dats m 0 c).arrAt_eq_of_cover 13 (weight13 m c)
    (fun t _ => by
      rw [Value.flushed13_A, Block.cast13_eq]
      funext y
      obtain ⟨r, d, rfl⟩ : ∃ (r : Fin 32) (d : Fin 1024), y = ix2 r d := ⟨y 0, y 1, by pointwise⟩
      show iblk m c 7 t (ix3 0 r d) = weight13 m c ((win0_13.rect t).emb (ix2 r d))
      rw [emb13, blk7]
      rfl)
    (fun i => (rows_cover (B := 32) (by rw [show cfg0.grid.N = 16 from N_0])
      (fun t => ((cfg0.win 13).blk t).view.set) (fun t r d _ => emb13 t r d ▸ View.emb_mem_set (v := ((cfg0.win 13).blk t).view) (ix2 r d)) i).imp
      fun t h => ⟨flush0_13 t, h⟩)

/-- Where the rows point `t` rounds of the third weight come from, -/
theorem index8 : ∀ t : Fin grid0.N, win0_8.index t = ![0, t.val, 0] := by decide +kernel
/-- and where they go. -/
theorem index14 : ∀ t : Fin grid0.N, win0_14.index t = ![t.val, 0] := by decide +kernel

/-- Point `t`'s rows of the third weight. -/
theorem blk8 (r : Fin 64) (d : Fin 1024) : iblk m c 8 t (ix3 0 r d) = (m ((c : Thread nD τ).loc main_arg8) : FVec Ideal S1x1024x1024 .f32)
    (ix3 0 ⟨64 * t.val + r.val, by have := hN t; omega⟩ d) := by
  show V m c main_arg8 ((win0_8.rect t).emb (ix3 0 r d)) = _
  rw [V_main_arg8]
  congr 1
  funext a
  refine Fin.ext ((win0_8.rect_emb_val t _ a).trans ?_)
  rw [index8]
  match a with
  | ⟨0, _⟩ => rfl
  | ⟨1, _⟩ => show t.val * 64 + r.val = 64 * t.val + r.val; omega
  | ⟨2, _⟩ => show 0 * 1024 + d.val = d.val; omega

/-- Where row `r` of point `t`'s rounded rows lies in the array. -/
theorem emb14 (r : Fin 64) (d : Fin 1024) : (win0_14.rect t).emb (ix2 r d) = ix2 ⟨64 * t.val + r.val, by have := hN t; omega⟩ d := by
  funext a
  refine Fin.ext ((win0_14.rect_emb_val t _ a).trans ?_)
  rw [index14]
  match a with
  | ⟨0, _⟩ => show t.val * 64 + r.val = 64 * t.val + r.val; omega
  | ⟨1, _⟩ => show 0 * 1024 + d.val = d.val; omega

/-- The third weight without its leading axis. -/
def weight14 : FVec Ideal S1024x1024 .bf16 := fun i => (m ((c.tc : Thread nD τ).loc main_arg8) : FVec Ideal S1x1024x1024 .f32) (ix3 0 (i 0) (i 1))

/-- The array after the run holds it. -/
theorem final14 : (dats m 0 c).arrAt 14 cfg0.N = weight14 m c :=
  (dats m 0 c).arrAt_eq_of_cover 14 (weight14 m c)
    (fun t _ => by
      rw [Value.flushed14_A, Block.cast14_eq]
      funext y
      obtain ⟨r, d, rfl⟩ : ∃ (r : Fin 64) (d : Fin 1024), y = ix2 r d := ⟨y 0, y 1, by pointwise⟩
      show iblk m c 8 t (ix3 0 r d) = weight14 m c ((win0_14.rect t).emb (ix2 r d))
      rw [emb14, blk8]
      rfl)
    (fun i => (rows_cover (B := 64) (by rw [show cfg0.grid.N = 16 from N_0])
      (fun t => ((cfg0.win 14).blk t).view.set) (fun t r d _ => emb14 t r d ▸ View.emb_mem_set (v := ((cfg0.win 14).blk t).view) (ix2 r d)) i).imp
      fun t h => ⟨flush0_14 t, h⟩)

/-- Where the rows point `t` rounds of the fourth weight come from, -/
theorem index9 : ∀ t : Fin grid0.N, win0_9.index t = ![0, t.val, 0] := by decide +kernel
/-- and where they go. -/
theorem index15 : ∀ t : Fin grid0.N, win0_15.index t = ![t.val, 0] := by decide +kernel

/-- Point `t`'s rows of the fourth weight. -/
theorem blk9 (r : Fin 64) (d : Fin 1024) : iblk m c 9 t (ix3 0 r d) = (m ((c : Thread nD τ).loc main_arg9) : FVec Ideal S1x1024x1024 .f32)
    (ix3 0 ⟨64 * t.val + r.val, by have := hN t; omega⟩ d) := by
  show V m c main_arg9 ((win0_9.rect t).emb (ix3 0 r d)) = _
  rw [V_main_arg9]
  congr 1
  funext a
  refine Fin.ext ((win0_9.rect_emb_val t _ a).trans ?_)
  rw [index9]
  match a with
  | ⟨0, _⟩ => rfl
  | ⟨1, _⟩ => show t.val * 64 + r.val = 64 * t.val + r.val; omega
  | ⟨2, _⟩ => show 0 * 1024 + d.val = d.val; omega

/-- Where row `r` of point `t`'s rounded rows lies in the array. -/
theorem emb15 (r : Fin 64) (d : Fin 1024) : (win0_15.rect t).emb (ix2 r d) = ix2 ⟨64 * t.val + r.val, by have := hN t; omega⟩ d := by
  funext a
  refine Fin.ext ((win0_15.rect_emb_val t _ a).trans ?_)
  rw [index15]
  match a with
  | ⟨0, _⟩ => show t.val * 64 + r.val = 64 * t.val + r.val; omega
  | ⟨1, _⟩ => show 0 * 1024 + d.val = d.val; omega

/-- The fourth weight without its leading axis. -/
def weight15 : FVec Ideal S1024x1024 .bf16 := fun i => (m ((c.tc : Thread nD τ).loc main_arg9) : FVec Ideal S1x1024x1024 .f32) (ix3 0 (i 0) (i 1))

/-- The array after the run holds it. -/
theorem final15 : (dats m 0 c).arrAt 15 cfg0.N = weight15 m c :=
  (dats m 0 c).arrAt_eq_of_cover 15 (weight15 m c)
    (fun t _ => by
      rw [Value.flushed15_A, Block.cast15_eq]
      funext y
      obtain ⟨r, d, rfl⟩ : ∃ (r : Fin 64) (d : Fin 1024), y = ix2 r d := ⟨y 0, y 1, by pointwise⟩
      show iblk m c 9 t (ix3 0 r d) = weight15 m c ((win0_15.rect t).emb (ix2 r d))
      rw [emb15, blk9]
      rfl)
    (fun i => (rows_cover (B := 64) (by rw [show cfg0.grid.N = 16 from N_0])
      (fun t => ((cfg0.win 15).blk t).view.set) (fun t r d _ => emb15 t r d ▸ View.emb_mem_set (v := ((cfg0.win 15).blk t).view) (ix2 r d)) i).imp
      fun t h => ⟨flush0_15 t, h⟩)

/-- Where the rows point `t` rounds of the fifth weight come from, -/
theorem index10 : ∀ t : Fin grid0.N, win0_10.index t = ![0, t.val, 0] := by decide +kernel
/-- and where they go. -/
theorem index16 : ∀ t : Fin grid0.N, win0_16.index t = ![t.val, 0] := by decide +kernel

/-- Point `t`'s rows of the fifth weight. -/
theorem blk10 (r : Fin 176) (d : Fin 1024) : iblk m c 10 t (ix3 0 r d) = (m ((c : Thread nD τ).loc main_arg10) : FVec Ideal S1x2816x1024 .f32)
    (ix3 0 ⟨176 * t.val + r.val, by have := hN t; omega⟩ d) := by
  show V m c main_arg10 ((win0_10.rect t).emb (ix3 0 r d)) = _
  rw [V_main_arg10]
  congr 1
  funext a
  refine Fin.ext ((win0_10.rect_emb_val t _ a).trans ?_)
  rw [index10]
  match a with
  | ⟨0, _⟩ => rfl
  | ⟨1, _⟩ => show t.val * 176 + r.val = 176 * t.val + r.val; omega
  | ⟨2, _⟩ => show 0 * 1024 + d.val = d.val; omega

/-- Where row `r` of point `t`'s rounded rows lies in the array. -/
theorem emb16 (r : Fin 176) (d : Fin 1024) : (win0_16.rect t).emb (ix2 r d) = ix2 ⟨176 * t.val + r.val, by have := hN t; omega⟩ d := by
  funext a
  refine Fin.ext ((win0_16.rect_emb_val t _ a).trans ?_)
  rw [index16]
  match a with
  | ⟨0, _⟩ => show t.val * 176 + r.val = 176 * t.val + r.val; omega
  | ⟨1, _⟩ => show 0 * 1024 + d.val = d.val; omega

/-- The fifth weight without its leading axis. -/
def weight16 : FVec Ideal S2816x1024 .bf16 := fun i => (m ((c.tc : Thread nD τ).loc main_arg10) : FVec Ideal S1x2816x1024 .f32) (ix3 0 (i 0) (i 1))

/-- The array after the run holds it. -/
theorem final16 : (dats m 0 c).arrAt 16 cfg0.N = weight16 m c :=
  (dats m 0 c).arrAt_eq_of_cover 16 (weight16 m c)
    (fun t _ => by
      rw [Value.flushed16_A, Block.cast16_eq]
      funext y
      obtain ⟨r, d, rfl⟩ : ∃ (r : Fin 176) (d : Fin 1024), y = ix2 r d := ⟨y 0, y 1, by pointwise⟩
      show iblk m c 10 t (ix3 0 r d) = weight16 m c ((win0_16.rect t).emb (ix2 r d))
      rw [emb16, blk10]
      rfl)
    (fun i => (rows_cover (B := 176) (by rw [show cfg0.grid.N = 16 from N_0])
      (fun t => ((cfg0.win 16).blk t).view.set) (fun t r d _ => emb16 t r d ▸ View.emb_mem_set (v := ((cfg0.win 16).blk t).view) (ix2 r d)) i).imp
      fun t h => ⟨flush0_16 t, h⟩)

end Cert.Ffn1Ideal.Whole

end
-- ==== Proof.Ffn1Claims.lean ====
/-
  The claims of the first sublayer.
-/
module

public import proofs.«01_k».proof.Defs
public import proofs.«01_k».proof.Proof.Ffn1
public import proofs.«01_k».proof.Proof.Gen.Ffn1.Frame
public import Idealize.ShloMosaic.Lib.Quiescent

@[expose] public section

noncomputable section

namespace Cert.Proof

open Idealize.ShloMosaic Idealize.ShloMosaic.TcCoe Idealize.SL.Sem Cert.Ffn1Ideal.Whole Cert.Tiles

/-- The kernel's and the reference's six results are the same functions of the same arguments. -/
theorem ffn1_algebraic : Cert.algebraic_Ffn1Ideal_Ffn1RefIdeal := fun m ρ m' ρ' _ hag =>
  ⟨fun c => result m c, fun c => weight12 m c, fun c => weight13 m c, fun c => weight14 m c, fun c => weight15 m c, fun c => weight16 m c,
    (θ_run _ _ _).mono (fun _ h c => by
      obtain ⟨e0, e1, e2, e3, e4, e5, rest⟩ := h c
      exact ⟨e0.trans (final m c), e1.trans (final12 m c), e2.trans (final13 m c), e3.trans (final14 m c), e4.trans (final15 m c),
        e5.trans (final16 m c), rest⟩) (Cert.Ffn1Ideal.Value.run_blocks (F := Ideal) m ρ),
    (θ_run _ _ _).mono (fun _ h c => by
      obtain ⟨e0, e1, e2, e3, e4, e5, rest⟩ := h c
      obtain ⟨h0, h1, h2, h3, h4, h5, h6, h7, h8, h9, h10⟩ := hag c
      refine ⟨e0.trans ?_, e1.trans ?_, e2.trans ?_, e3.trans ?_, e4.trans ?_, e5.trans ?_, rest⟩
      · rw [Cert.Ffn1RefIdeal.Read.res_eq, h0, h1, h2, h3, h4, h5]; rfl
      · rw [h6]; exact weight_at _ _ _
      · rw [h7]; exact weight_at _ _ _
      · rw [h8]; exact weight_at _ _ _
      · rw [h9]; exact weight_at _ _ _
      · rw [h10]; exact weight_at _ _ _) (Cert.Ffn1RefIdeal.Value.run (F := Ideal) m' ρ')⟩

/-- The reference's run leaves its arguments as they were. -/
theorem ffn1_ref_frame : Cert.quiescent_Ffn1RefIdeal := fun m ρ _ =>
  (θ_run _ _ _).mono (fun r h => ⟨fun c => (h c).2.2.2.2.2.2, sem_eq_zero_of_no_sems rfl r.2⟩) (Cert.Ffn1RefIdeal.Value.run (F := Ideal) m ρ)

end Cert.Proof

end
-- ==== Proof.ProjInit.lean ====
module

public import proofs.«01_k».proof.Proof.Gen.ProjIdeal.Skeleton
public import proofs.«01_k».proof.Proof.Gen.ProjIdeal.Frame

/-! The start of the body: at the first point the four carried scratch buffers are filled; whatever the point, they are
owned when the rest runs. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's first conditional, over any contents of the four scratch buffers it may fill. -/
theorem init_run (c : Dev nD) (i : grid0.Coords) (arg17 : Memref sig .tc .vmem S8x512x128 .f32) (arg18 : Memref sig .tc .vmem S512x1024 .f32) (arg19 : Memref sig .tc .vmem S8x3x8x128 .f32) (arg20 : Memref sig .tc .vmem S8x8x128 .f32)
    (E : Set ℕ) (P : Prog (TpuEff nD τ sig (Elt F) Λ₀ .tc) PUnit) (Q : PUnit → sProp 𝕄) :
    iprop((∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop((∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ wp frame (wpE (defs₀ (F := F)) Variants.none c none) E P Q))
      ⊢ wp frame (wpE (defs₀ (F := F)) Variants.none c none) E
        (show Prog (TpuEff nD τ sig (Elt F) Λ₀ .tc) PUnit from do
      if k0_h1 : (Scalar.cmpi .ne (Scalar.extui (Scalar.cmpi .eq (BitVec.ofNat 32 (i 0).val) 0#32)) 0#32) = 1#1 then do
        let v10 : Vec F S8x512x128 .f32 ← Prog.lift (.load arg17 (Rect.unit (s := S8x512x128) ![0, 0, 0] S8x512x128.size inb_S8x512x128_S8x512x128_0_0_0).toLoadRect (View.loadsAt_vmem h_S8x512x128))
        Prog.lift (.store arg17 (Rect.unit (s := S8x512x128) ![0, 0, 0] S8x512x128.size inb_S8x512x128_S8x512x128_0_0_0) (k0_pay1 (F := F)) Finset.univ (View.stores_vmem_bits_univ h_S8x512x128 rfl) (.inl rfl))
        let v14 : Vec F S512x1024 .f32 ← Prog.lift (.load arg18 (Rect.unit (s := S512x1024) ![0, 0] S512x1024.size inb_S512x1024_S512x1024_0_0).toLoadRect (View.loadsAt_vmem h_S512x1024))
        Prog.lift (.store arg18 (Rect.unit (s := S512x1024) ![0, 0] S512x1024.size inb_S512x1024_S512x1024_0_0) (k0_pay2 (F := F)) Finset.univ (View.stores_vmem_bits_univ h_S512x1024 rfl) (.inl rfl))
        let v18 : Vec F S8x3x8x128 .f32 ← Prog.lift (.load arg19 (Rect.unit (s := S8x3x8x128) ![0, 0, 0, 0] S8x3x8x128.size inb_S8x3x8x128_S8x3x8x128_0_0_0_0).toLoadRect (View.loadsAt_vmem h_S8x3x8x128))
        Prog.lift (.store arg19 (Rect.unit (s := S8x3x8x128) ![0, 0, 0, 0] S8x3x8x128.size inb_S8x3x8x128_S8x3x8x128_0_0_0_0) (k0_pay3 (F := F)) Finset.univ (View.stores_vmem_bits_univ h_S8x3x8x128 rfl) (.inl rfl))
        let v22 : Vec F S8x8x128 .f32 ← Prog.lift (.load arg20 (Rect.unit (s := S8x8x128) ![0, 0, 0] S8x8x128.size inb_S8x8x128_S8x8x128_0_0_0).toLoadRect (View.loadsAt_vmem h_S8x8x128))
        Prog.lift (.store arg20 (Rect.unit (s := S8x8x128) ![0, 0, 0] S8x8x128.size inb_S8x8x128_S8x8x128_0_0_0) (k0_pay4 (F := F)) Finset.univ (View.stores_vmem_bits_univ h_S8x8x128 rfl) (.inl rfl))
        P
      else do
        P) Q := by
  unfold owns
  iintro ⟨⟨%d0, %f0, -, H0⟩, ⟨%d1, %f1, -, H1⟩, ⟨%d2, %f2, -, H2⟩, ⟨%d3, %f3, -, H3⟩, Hk⟩
  by_cases hc : (Scalar.cmpi .ne (Scalar.extui (Scalar.cmpi .eq (BitVec.ofNat 32 (i 0).val) 0#32)) 0#32) = 1#1
  all_goals
    sl_exec (disch := sl_exact hc)
    iapply Hk
    isplitl [H0]
    · iexists _, _; isplitr
      swap; · iexact H0
      ipureintro; rfl
    isplitl [H1]
    · iexists _, _; isplitr
      swap; · iexact H1
      ipureintro; rfl
    isplitl [H2]
    · iexists _, _; isplitr
      swap; · iexact H2
      ipureintro; rfl
    iexists _, _; isplitr
    swap; · iexact H3
    ipureintro; rfl

end Cert.ProjIdeal.Hand

end
-- ==== Proof.ProjMain.lean ====
module

public import proofs.«01_k».proof.Proof.Gen.ProjIdeal.Skeleton
public import proofs.«01_k».proof.Proof.ProjInit

/-! The body of the projection call at a point that projects a block, run once over any staging buffers. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 23628000 in
/-- The body at a point that projects a block: what its stores leave in the five projected outputs, as pieces (last first), with the proof that the body runs from the inputs' buffers at their contents and every other buffer at anything to the inputs' as they were, those five with the pieces written and the rest at anything. -/
noncomputable def mainRun (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1024x5632 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S8x128x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x8x64x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S8x512x128 .f32) (harg17 : arg17.IsWhole) (arg18 : Memref sig .tc .vmem S512x1024 .f32) (harg18 : arg18.IsWhole) (arg19 : Memref sig .tc .vmem S8x3x8x128 .f32) (harg19 : arg19.IsWhole) (arg20 : Memref sig .tc .vmem S8x8x128 .f32) (harg20 : arg20.IsWhole) (arg21 : Memref sig .tc .vmem S8x256x128 .f32) (harg21 : arg21.IsWhole)
    (hc2 : k0_cond2 i = 1#1) (hc3 : ¬ k0_cond3 i = 1#1) (x0 : Vec F S512x1024 .f32) (x1 : Vec F S1x9x1024 .f32) (x2 : Vec F S3x1024 .f32) (x3 : Vec F S1024x5632 .bf16) (x4 : Vec F S4x1024 .f32) (x5 : Vec F S1x1024 .f32) (x6 : Vec F S8x128x256 .bf16) (x7 : Vec F S1x1024 .f32) (x8 : Vec F S1x1024 .f32) (x9 : Vec F S1x1024 .f32) :
    Σ' (LQ : List (View.Piece (Elt F) S1x4x512x128 .bf16)), Σ' (LK : List (View.Piece (Elt F) S1x4x512x128 .bf16)), Σ' (LV : List (View.Piece (Elt F) S1x8x64x512 .bf16)), Σ' (LA : List (View.Piece (Elt F) S512x1024 .bf16)), { LR : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LQ) ∗ (∃ f, arg12.view.loc (c : Thread nD τ) ↦[arg12.view.set]{fullShare} arg12.view.writes (Elt F) f LK) ∗ (∃ f, arg13.view.loc (c : Thread nD τ) ↦[arg13.view.set]{fullShare} arg13.view.writes (Elt F) f LV) ∗ (∃ d, owns (c : Thread nD τ) arg14 fullShare d) ∗ (∃ f, arg15.view.loc (c : Thread nD τ) ↦[arg15.view.set]{fullShare} arg15.view.writes (Elt F) f LA) ∗ (∃ f, arg16.view.loc (c : Thread nD τ) ↦[arg16.view.set]{fullShare} arg16.view.writes (Elt F) f LR) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mixer_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_mixer_proj_eq_skeleton]; unfold cc0_mixer_proj_skel
    dsimp only
    iintro ⟨H0, H1, H2, H3, H4, H5, H6, H7, H8, H9, H10, H11, H12, H13, H14, H15, HS0, HS1, HS2, HS3, HS4, Hk⟩
    iapply (init_run c i arg17 arg18 arg19 arg20 E _ _)
    isplitl [HS0]; · iexact HS0
    isplitl [HS1]; · iexact HS1
    isplitl [HS2]; · iexact HS2
    isplitl [HS3]; · iexact HS3
    iintro ⟨HS0, HS1, HS2, HS3⟩
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton]
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%d10, %f10, -, H10⟩
    icases H11 with ⟨%d11, %f11, -, H11⟩
    icases H12 with ⟨%d12, %f12, -, H12⟩
    icases H13 with ⟨%d13, %f13, -, H13⟩
    icases H14 with ⟨%d14, %f14, -, H14⟩
    icases H15 with ⟨%d15, %f15, -, H15⟩
    icases HS0 with ⟨%ds0, %fs0, -, HS0⟩
    icases HS1 with ⟨%ds1, %fs1, -, HS1⟩
    icases HS2 with ⟨%ds2, %fs2, -, HS2⟩
    icases HS3 with ⟨%ds3, %fs3, -, HS3⟩
    icases HS4 with ⟨%ds4, %fs4, -, HS4⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc2 | sl_exact hc3)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    isplitl [H10]; · iexists _; iexact H10
    isplitl [H11]; · iexists _; iexact H11
    isplitl [H12]; · iexists _; iexact H12
    isplitl [H13]
    · iexists _, _; isplitr
      swap; · iexact H13
      ipureintro; rfl
    isplitl [H14]; · iexists _; iexact H14
    isplitl [H15]; · iexists _; iexact H15
    isplitl [HS0]
    · iexists _, _; isplitr
      swap; · iexact HS0
      ipureintro; rfl
    isplitl [HS1]
    · iexists _, _; isplitr
      swap; · iexact HS1
      ipureintro; rfl
    isplitl [HS2]
    · iexists _, _; isplitr
      swap; · iexact HS2
      ipureintro; rfl
    isplitl [HS3]
    · iexists _, _; isplitr
      swap; · iexact HS3
      ipureintro; rfl
    iexists _, _; isplitr
    swap; · iexact HS4
    ipureintro; rfl

end Cert.ProjIdeal.Hand

end
-- ==== Proof.ProjBlock.lean ====
/-
  The projection's kernel, one point that projects: the blocks it leaves in its five projected outputs, as functions of the point's
  input blocks. Each is stored in pieces, a chunk of columns of one product at a time.
-/
module

public import proofs.«01_k».proof.Proof.Rows
public import proofs.«01_k».proof.Proof.Pieces
public import proofs.«01_k».proof.Proof.ProjMain

@[expose] public section

set_option maxRecDepth 16384

noncomputable section

namespace Cert.ProjIdeal.Block

open Cert.ProjIdeal Cert.ProjIdeal.Gen Cert.ProjIdeal.Hand Cert.Rows Cert.Pieces Idealize.ShloMosaic Idealize.ShloMosaic.TcCoe Idealize.SL.Sem

/-- Row `r` of the block, normalised and modulated, times the input weights: all its columns. -/
def pRow (x0 : Vec Ideal S512x1024 .f32) (x1 : Vec Ideal S1x9x1024 .f32) (x2 : Vec Ideal S3x1024 .f32) (x3 : Vec Ideal S1024x5632 .bf16)
    (r : Fin 512) : Row 5632 :=
  times (modulated (fun d => x0 (ix2 r d)) (fun d => x2 (ix2 1 d)) (fun d => x1 (ix3 0 4 d)) (fun d => x1 (ix3 0 3 d))) fun i j => x3 (ix2 i j)

section
variable (x0 : Vec Ideal S512x1024 .f32) (x1 : Vec Ideal S1x9x1024 .f32) (x2 : Vec Ideal S3x1024 .f32) (x3 : Vec Ideal S1024x5632 .bf16)

/-- The block of queries: pair, row, lane. -/
def qBlk : Vec Ideal S1x4x512x128 .bf16 := fun j =>
  pRow x0 x1 x2 x3 (j 2) ⟨(j 1).val * 128 + (j 3).val, by have h1 : (j 1).val < 4 := (j 1).isLt; have h3 : (j 3).val < 128 := (j 3).isLt; omega⟩
  * Ideal.ofBits .f32 0x3E38AA3B#32
/-- The block of keys. -/
def kBlk : Vec Ideal S1x4x512x128 .bf16 := fun j =>
  pRow x0 x1 x2 x3 (j 2) ⟨512 + ((j 1).val * 128 + (j 3).val), by have h1 : (j 1).val < 4 := (j 1).isLt; have h3 : (j 3).val < 128 := (j 3).isLt; omega⟩
/-- The block of values: head, feature, row. -/
def vBlk : Vec Ideal S1x8x64x512 .bf16 := fun j =>
  pRow x0 x1 x2 x3 (j 3) ⟨1024 + ((j 1).val * 64 + (j 2).val), by have h1 : (j 1).val < 8 := (j 1).isLt; have h3 : (j 2).val < 64 := (j 2).isLt; omega⟩
/-- The block of a gate whose columns begin at `o`. -/
def gBlk (o : Nat) (ho : o + 1024 ≤ 5632) : Vec Ideal S512x1024 .bf16 := fun j =>
  pRow x0 x1 x2 x3 (j 0) ⟨o + (j 1).val, by have h1 : (j 1).val < 1024 := (j 1).isLt; omega⟩
end

/-- Covering pieces that agree with a function are, taken together, that function. -/
theorem canon_of_agrees {s : Shape} {e : EltTy} {G : s.Idx → Elt Ideal e} {L : List (View.Piece (Elt Ideal) s e)} (hL : Agrees G L)
    (hc : ∀ y, ∃ p ∈ L, y ∈ p.1.set) : View.canon L = G :=
  funext fun y => View.canon_apply_of_pieces G L hL.of_mem y (hc y)

variable (c : Dev nD) (i : grid0.Coords)
  (arg1 : Memref sig .tc .vmem S512x1024 .f32) (harg1 : arg1.IsWhole)
  (arg2 : Memref sig .tc .vmem S1x9x1024 .f32) (harg2 : arg2.IsWhole)
  (arg3 : Memref sig .tc .vmem S3x1024 .f32) (harg3 : arg3.IsWhole)
  (arg4 : Memref sig .tc .vmem S1024x5632 .bf16) (harg4 : arg4.IsWhole)
  (arg5 : Memref sig .tc .vmem S4x1024 .f32) (harg5 : arg5.IsWhole)
  (arg6 : Memref sig .tc .vmem S1x1024 .f32) (harg6 : arg6.IsWhole)
  (arg7 : Memref sig .tc .vmem S8x128x256 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x4x512x128 .bf16) (harg11 : arg11.IsWhole)
  (arg12 : Memref sig .tc .vmem S1x4x512x128 .bf16) (harg12 : arg12.IsWhole)
  (arg13 : Memref sig .tc .vmem S1x8x64x512 .bf16) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S8x512x128 .f32) (harg17 : arg17.IsWhole)
  (arg18 : Memref sig .tc .vmem S512x1024 .f32) (harg18 : arg18.IsWhole)
  (arg19 : Memref sig .tc .vmem S8x3x8x128 .f32) (harg19 : arg19.IsWhole)
  (arg20 : Memref sig .tc .vmem S8x8x128 .f32) (harg20 : arg20.IsWhole)
  (arg21 : Memref sig .tc .vmem S8x256x128 .f32) (harg21 : arg21.IsWhole)
  (hc2 : k0_cond2 i = 1#1) (hc3 : ¬ k0_cond3 i = 1#1)
  (x0 : Vec Ideal S512x1024 .f32) (x1 : Vec Ideal S1x9x1024 .f32) (x2 : Vec Ideal S3x1024 .f32) (x3 : Vec Ideal S1024x5632 .bf16) (x4 : Vec Ideal S4x1024 .f32) (x5 : Vec Ideal S1x1024 .f32) (x6 : Vec Ideal S8x128x256 .bf16) (x7 : Vec Ideal S1x1024 .f32) (x8 : Vec Ideal S1x1024 .f32) (x9 : Vec Ideal S1x1024 .f32)

/-- The stores of the query block hold its function. -/
theorem agrees10 : Agrees (qBlk x0 x1 x2 x3) (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 x0 x1 x2 x3 x4 x5 x6 x7 x8 x9).1 := by
  unfold mainRun
  refine agrees_cons (fun x => ?_) (agrees_cons (fun x => ?_) (agrees_cons (fun x => ?_) (agrees_cons (fun x => ?_) (agrees_nil _))))
  all_goals
    simp only [mainRun.sl.r, View.readAt_eq_ld, Memref.IsWhole.read_unread]
    unfold_payloads
    pointwise [qBlk, kBlk, vBlk, gBlk, pRow, times, modulated, normed, invRms, mul_assoc] <;> simp only [← Nat.add_assoc, Nat.add_mul, Nat.reduceAdd, Nat.reduceMul]

/-- The stores of the key block hold its function. -/
theorem agrees11 : Agrees (kBlk x0 x1 x2 x3) (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 x0 x1 x2 x3 x4 x5 x6 x7 x8 x9).2.1 := by
  unfold mainRun
  refine agrees_cons (fun x => ?_) (agrees_cons (fun x => ?_) (agrees_cons (fun x => ?_) (agrees_cons (fun x => ?_) (agrees_nil _))))
  all_goals
    simp only [mainRun.sl.r, mainRun.sl.r_178, mainRun.sl.r_179, View.readAt_eq_ld, Memref.IsWhole.read_unread]
    unfold_payloads
    pointwise [qBlk, kBlk, vBlk, gBlk, pRow, times, modulated, normed, invRms, mul_assoc] <;> simp only [← Nat.add_assoc, Nat.add_mul, Nat.reduceAdd, Nat.reduceMul]

/-- The stores of the value block hold its function. -/
theorem agrees12 : Agrees (vBlk x0 x1 x2 x3) (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 x0 x1 x2 x3 x4 x5 x6 x7 x8 x9).2.2.1 := by
  unfold mainRun
  refine agrees_cons (fun x => ?_) (agrees_cons (fun x => ?_) (agrees_nil _))
  all_goals
    simp only [mainRun.sl.r, View.readAt_eq_ld, Memref.IsWhole.read_unread]
    unfold_payloads
    pointwise [qBlk, kBlk, vBlk, gBlk, pRow, times, modulated, normed, invRms, mul_assoc] <;> simp only [← Nat.add_assoc, Nat.add_mul, Nat.reduceAdd, Nat.reduceMul]

/-- The stores of the attention gate's block hold its function. -/
theorem agrees14 : Agrees (gBlk x0 x1 x2 x3 3584 (by omega)) (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 x0 x1 x2 x3 x4 x5 x6 x7 x8 x9).2.2.2.1 := by
  unfold mainRun
  refine agrees_cons (fun x => ?_) (agrees_cons (fun x => ?_) (agrees_cons (fun x => ?_) (agrees_cons (fun x => ?_) (agrees_nil _))))
  all_goals
    simp only [mainRun.sl.r, mainRun.sl.r_622, View.readAt_eq_ld, Memref.IsWhole.read_unread]
    unfold_payloads
    pointwise [qBlk, kBlk, vBlk, gBlk, pRow, times, modulated, normed, invRms, mul_assoc] <;> simp only [← Nat.add_assoc, Nat.add_mul, Nat.reduceAdd, Nat.reduceMul]

/-- The stores of the recurrent gate's block hold its function. -/
theorem agrees15 : Agrees (gBlk x0 x1 x2 x3 4608 (by omega)) (mainRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc2 hc3 x0 x1 x2 x3 x4 x5 x6 x7 x8 x9).2.2.2.2.1 := by
  unfold mainRun
  refine agrees_cons (fun x => ?_) (agrees_cons (fun x => ?_) (agrees_cons (fun x => ?_) (agrees_cons (fun x => ?_) (agrees_nil _))))
  all_goals
    simp only [mainRun.sl.r, View.readAt_eq_ld, Memref.IsWhole.read_unread]
    unfold_payloads
    pointwise [qBlk, kBlk, vBlk, gBlk, pRow, times, modulated, normed, invRms, mul_assoc] <;> simp only [← Nat.add_assoc, Nat.add_mul, Nat.reduceAdd, Nat.reduceMul]

end Cert.ProjIdeal.Block

end
-- ==== Proof.ProjTail.lean ====
module

public import proofs.«01_k».proof.Proof.Gen.ProjIdeal.Skeleton
public import proofs.«01_k».proof.Proof.ProjInit

/-! The body of the projection call at a point that only finishes the scan. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 23628000 in
/-- The body at the last point, which only finishes the scan: it touches none of the five projected outputs. -/
theorem tailRun (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1024x5632 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S8x128x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x8x64x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S8x512x128 .f32) (harg17 : arg17.IsWhole) (arg18 : Memref sig .tc .vmem S512x1024 .f32) (harg18 : arg18.IsWhole) (arg19 : Memref sig .tc .vmem S8x3x8x128 .f32) (harg19 : arg19.IsWhole) (arg20 : Memref sig .tc .vmem S8x8x128 .f32) (harg20 : arg20.IsWhole) (arg21 : Memref sig .tc .vmem S8x256x128 .f32) (harg21 : arg21.IsWhole)
    (hc2 : ¬ k0_cond2 i = 1#1) (hc3 : k0_cond3 i = 1#1) (x0 : Vec F S512x1024 .f32) (x1 : Vec F S1x9x1024 .f32) (x2 : Vec F S3x1024 .f32) (x3 : Vec F S1024x5632 .bf16) (x4 : Vec F S4x1024 .f32) (x5 : Vec F S1x1024 .f32) (x6 : Vec F S8x128x256 .bf16) (x7 : Vec F S1x1024 .f32) (x8 : Vec F S1x1024 .f32) (x9 : Vec F S1x1024 .f32) :
          ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg14 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg14 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mixer_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K  := by
  intro E K
  simp only [cc0_mixer_proj_eq_skeleton]; unfold cc0_mixer_proj_skel
  dsimp only
  iintro ⟨H0, H1, H2, H3, H4, H5, H6, H7, H8, H9, H13, HS0, HS1, HS2, HS3, HS4, Hk⟩
  iapply (init_run c i arg17 arg18 arg19 arg20 E _ _)
  isplitl [HS0]; · iexact HS0
  isplitl [HS1]; · iexact HS1
  isplitl [HS2]; · iexact HS2
  isplitl [HS3]; · iexact HS3
  iintro ⟨HS0, HS1, HS2, HS3⟩
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton]
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H13 with ⟨%d13, %f13, -, H13⟩
  icases HS0 with ⟨%ds0, %fs0, -, HS0⟩
  icases HS1 with ⟨%ds1, %fs1, -, HS1⟩
  icases HS2 with ⟨%ds2, %fs2, -, HS2⟩
  icases HS3 with ⟨%ds3, %fs3, -, HS3⟩
  icases HS4 with ⟨%ds4, %fs4, -, HS4⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc2 | sl_exact hc3)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H13]
  · iexists _, _; isplitr
    swap; · iexact H13
    ipureintro; rfl
  isplitl [HS0]
  · iexists _, _; isplitr
    swap; · iexact HS0
    ipureintro; rfl
  isplitl [HS1]
  · iexists _, _; isplitr
    swap; · iexact HS1
    ipureintro; rfl
  isplitl [HS2]
  · iexists _, _; isplitr
    swap; · iexact HS2
    ipureintro; rfl
  isplitl [HS3]
  · iexists _, _; isplitr
    swap; · iexact HS3
    ipureintro; rfl
  iexists _, _; isplitr
  swap; · iexact HS4
  ipureintro; rfl

end Cert.ProjIdeal.Hand

end
-- ==== Proof.ProjFrame.lean ====
module

public import proofs.«01_k».proof.Proof.Gen.ProjIdeal.Skeleton
public import proofs.«01_k».proof.Proof.ProjMain
public import proofs.«01_k».proof.Proof.ProjTail
public import Idealize.ShloMosaic.Lib.Claim

/-! The projection call's frame, by hand: what each point leaves in the five projected outputs, the recurrent output forgotten, the scratch
owned at anything between points; the last point writes back what the point before it stored. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

/-- Every point but the last projects a block; -/
theorem cond2_iff : ∀ t : Fin grid0.N, k0_cond2 (grid0.coords t) = 1#1 ↔ t.val < 32 := by decide +kernel
/-- the last only finishes the scan. -/
theorem cond3_iff : ∀ t : Fin grid0.N, k0_cond3 (grid0.coords t) = 1#1 ↔ ¬ t.val < 32 := by decide +kernel

/-- The q output's block is written back everywhere but at point 31, whose block the last point writes back. -/
theorem flush10 : ∀ t : Fin grid0.N, win0_10.flush t = !(t.val == 31) := by decide +kernel
/-- Nothing is stored into it at the last point only. -/
theorem idle10 : ∀ t : Fin grid0.N, idle0 10 (grid0.coords t) = !decide (t.val < 32) := by decide +kernel
/-- The k output's block is written back everywhere but at point 31, whose block the last point writes back. -/
theorem flush11 : ∀ t : Fin grid0.N, win0_11.flush t = !(t.val == 31) := by decide +kernel
/-- Nothing is stored into it at the last point only. -/
theorem idle11 : ∀ t : Fin grid0.N, idle0 11 (grid0.coords t) = !decide (t.val < 32) := by decide +kernel
/-- The v output's block is written back everywhere but at point 31, whose block the last point writes back. -/
theorem flush12 : ∀ t : Fin grid0.N, win0_12.flush t = !(t.val == 31) := by decide +kernel
/-- Nothing is stored into it at the last point only. -/
theorem idle12 : ∀ t : Fin grid0.N, idle0 12 (grid0.coords t) = !decide (t.val < 32) := by decide +kernel
/-- The sa output's block is written back everywhere but at point 31, whose block the last point writes back. -/
theorem flush14 : ∀ t : Fin grid0.N, win0_14.flush t = !(t.val == 31) := by decide +kernel
/-- Nothing is stored into it at the last point only. -/
theorem idle14 : ∀ t : Fin grid0.N, idle0 14 (grid0.coords t) = !decide (t.val < 32) := by decide +kernel
/-- The sr output's block is written back everywhere but at point 31, whose block the last point writes back. -/
theorem flush15 : ∀ t : Fin grid0.N, win0_15.flush t = !(t.val == 31) := by decide +kernel
/-- Nothing is stored into it at the last point only. -/
theorem idle15 : ∀ t : Fin grid0.N, idle0 15 (grid0.coords t) = !decide (t.val < 32) := by decide +kernel

/-! ## What a point leaves -/

/-- The run of the body at a point that projects, on that point's buffers and input blocks. -/
def runAt (c : Dev nD) (t : Fin cfg0.N) (ht : t.val < 32) :=
  mainRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((cond2_iff t).mpr ht) (fun h => (cond3_iff t).mp h ht)
    (iblk m c 0 t) (iblk m c 1 t) (iblk m c 2 t) (iblk m c 3 t) (iblk m c 4 t) (iblk m c 5 t) (iblk m c 6 t) (iblk m c 7 t) (iblk m c 8 t) (iblk m c 9 t)

/-- The point whose stores a buffer holds after point `t`: `t` itself, but the last holds what the one before it left. -/
def live (t : Fin cfg0.N) : Fin cfg0.N := ⟨min t.val 31, Nat.lt_of_le_of_lt (Nat.min_le_left _ _) t.isLt⟩
/-- That point projects. -/
theorem live_lt (t : Fin cfg0.N) : (live t).val < 32 := Nat.lt_of_le_of_lt (Nat.min_le_right _ _) (by decide)
/-- A point that projects holds its own stores. -/
theorem live_of_lt (t : Fin cfg0.N) (h : t.val < 32) : live t = t := Fin.ext (Nat.min_eq_left (by omega))

/-- What the q output's buffer holds after point `t`. -/
def out10 (c : Dev nD) (t : Fin cfg0.N) : Vec F S1x4x512x128 .bf16 := View.canon (runAt m c (live t) (live_lt t)).1
/-- What the k output's buffer holds after point `t`. -/
def out11 (c : Dev nD) (t : Fin cfg0.N) : Vec F S1x4x512x128 .bf16 := View.canon (runAt m c (live t) (live_lt t)).2.1
/-- What the v output's buffer holds after point `t`. -/
def out12 (c : Dev nD) (t : Fin cfg0.N) : Vec F S1x8x64x512 .bf16 := View.canon (runAt m c (live t) (live_lt t)).2.2.1
/-- What the sa output's buffer holds after point `t`. -/
def out14 (c : Dev nD) (t : Fin cfg0.N) : Vec F S512x1024 .bf16 := View.canon (runAt m c (live t) (live_lt t)).2.2.2.1
/-- What the sr output's buffer holds after point `t`. -/
def out15 (c : Dev nD) (t : Fin cfg0.N) : Vec F S512x1024 .bf16 := View.canon (runAt m c (live t) (live_lt t)).2.2.2.2.1
/-- A projecting point's stores cover the q buffer. -/
theorem cover10 (c : Dev nD) (t : Fin cfg0.N) (ht : t.val < 32) : ∀ y, ∃ p ∈ (runAt m c t ht).1, y ∈ p.1.set := by
  unfold runAt
  exact View.cover_of_tiledL _ ![1, 1, 512, 128] (by sl_kernel_rfl)
/-- What the q buffer holds depends on the point alone. -/
theorem canon10 (c : Dev nD) : ∀ (s t : Fin cfg0.N) (hs : s.val < 32) (ht : t.val < 32), s = t →
    View.canon (runAt m c s hs).1 = View.canon (runAt m c t ht).1 := by
  intro s t hs ht h; subst h; rfl
/-- A projecting point's stores cover the k buffer. -/
theorem cover11 (c : Dev nD) (t : Fin cfg0.N) (ht : t.val < 32) : ∀ y, ∃ p ∈ (runAt m c t ht).2.1, y ∈ p.1.set := by
  unfold runAt
  exact View.cover_of_tiledL _ ![1, 1, 512, 128] (by sl_kernel_rfl)
/-- What the k buffer holds depends on the point alone. -/
theorem canon11 (c : Dev nD) : ∀ (s t : Fin cfg0.N) (hs : s.val < 32) (ht : t.val < 32), s = t →
    View.canon (runAt m c s hs).2.1 = View.canon (runAt m c t ht).2.1 := by
  intro s t hs ht h; subst h; rfl
/-- A projecting point's stores cover the v buffer. -/
theorem cover12 (c : Dev nD) (t : Fin cfg0.N) (ht : t.val < 32) : ∀ y, ∃ p ∈ (runAt m c t ht).2.2.1, y ∈ p.1.set := by
  unfold runAt
  exact View.cover_of_tiledL _ ![1, 4, 64, 512] (by sl_kernel_rfl)
/-- What the v buffer holds depends on the point alone. -/
theorem canon12 (c : Dev nD) : ∀ (s t : Fin cfg0.N) (hs : s.val < 32) (ht : t.val < 32), s = t →
    View.canon (runAt m c s hs).2.2.1 = View.canon (runAt m c t ht).2.2.1 := by
  intro s t hs ht h; subst h; rfl
/-- A projecting point's stores cover the sa buffer. -/
theorem cover14 (c : Dev nD) (t : Fin cfg0.N) (ht : t.val < 32) : ∀ y, ∃ p ∈ (runAt m c t ht).2.2.2.1, y ∈ p.1.set := by
  unfold runAt
  exact View.cover_of_tiledL _ ![512, 256] (by sl_kernel_rfl)
/-- What the sa buffer holds depends on the point alone. -/
theorem canon14 (c : Dev nD) : ∀ (s t : Fin cfg0.N) (hs : s.val < 32) (ht : t.val < 32), s = t →
    View.canon (runAt m c s hs).2.2.2.1 = View.canon (runAt m c t ht).2.2.2.1 := by
  intro s t hs ht h; subst h; rfl
/-- A projecting point's stores cover the sr buffer. -/
theorem cover15 (c : Dev nD) (t : Fin cfg0.N) (ht : t.val < 32) : ∀ y, ∃ p ∈ (runAt m c t ht).2.2.2.2.1, y ∈ p.1.set := by
  unfold runAt
  exact View.cover_of_tiledL _ ![512, 256] (by sl_kernel_rfl)
/-- What the sr buffer holds depends on the point alone. -/
theorem canon15 (c : Dev nD) : ∀ (s t : Fin cfg0.N) (hs : s.val < 32) (ht : t.val < 32), s = t →
    View.canon (runAt m c s hs).2.2.2.2.1 = View.canon (runAt m c t ht).2.2.2.2.1 := by
  intro s t hs ht h; subst h; rfl

/-- The proof data: the arrays as the region finds them; after each point the inputs' buffers at their blocks, the five projected outputs'
    at what the projecting point left, the recurrent output's unnamed; the scratch at anything throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
    | ⟨13, h⟩ => Pipeline.Dat.unnamed (cfg := cfg0) ⟨13, h⟩ t
    | ⟨14, _⟩ => out14 m c t
    | ⟨15, _⟩ => out15 m c t
    | ⟨n + 16, h⟩ => absurd (show n + 16 < 16 from h) (by omega)
  Φ _ := Pipeline.ΦA spec0 c
  q _ := fullShare
  owed _ := 0

/-- The recurrent output is the one forgotten. -/
def forgets0 : Fin 16 → Bool := fun w => w.val == 13

/-- The arrays are those the region finds. -/
theorem A_eq (c : Dev nD) (w : Fin cfg0.W) : (dats m 0 c).A w = V m c (Pipeline.arrRef spec0 w) := by dsimp only [dats]

/-! Window by window: what is left, and what an input holds on entry. -/

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = out10 m c t := by dsimp only [dats]
/-- At the last point the q buffer still holds what the point before left, which is what it is to hold. -/
theorem before10 (c : Dev nD) (t : Fin cfg0.N) (ht : ¬ t.val < 32) (d) : (dats m 0 c).before 10 t d = out10 m c t := by
  have hN : t.val < 33 := lt_of_lt_of_eq t.isLt N_0
  rw [(dats m 0 c).before_of_pos 10 t (by omega) rfl d]
  have hf : (cfg0.win 10).flush ⟨t.val - 1, Nat.lt_of_le_of_lt (Nat.sub_le _ _) t.isLt⟩ = false := by
    refine (flush10 _).trans ?_; simp only [show t.val - 1 = 31 from by omega]; rfl
  have hi : cfg0.idle 10 (cfg0.grid.coords ⟨t.val - 1, Nat.lt_of_le_of_lt (Nat.sub_le _ _) t.isLt⟩) = false := by
    refine (idle10 _).trans ?_; simp only [show t.val - 1 = 31 from by omega]; rfl
  rw [hf, if_neg Bool.false_ne_true]
  unfold Pipeline.Dat.left
  rw [hi]
  show (dats m 0 c).after 10 _ = _
  rw [after10]
  unfold out10
  exact canon10 m c _ _ _ _ (Fin.ext (by show min (t.val - 1) 31 = min t.val 31; omega))
/-- So at every point the obligation asks the q buffer at what it is to hold. -/
theorem leaves10 (c : Dev nD) (t : Fin cfg0.N) :
    (owns (c : Thread nD τ) (win0_10.stage (cfg0.slots t 10)) fullShare (out10 m c t) : sProp 𝕄) ⊢ (dats m 0 c).leavesExact 10 t := by
  by_cases ht : t.val < 32
  · have hi : cfg0.idle 10 (cfg0.grid.coords t) = false := (idle10 t).trans (by rw [decide_eq_true ht]; rfl)
    unfold Pipeline.Dat.leavesExact; rw [hi, after10]
  · have hi : cfg0.idle 10 (cfg0.grid.coords t) = true := (idle10 t).trans (by rw [decide_eq_false ht]; rfl)
    have hf : (cfg0.win 10).flush t = true := (flush10 t).trans (by
      have : t.val < 33 := lt_of_lt_of_eq t.isLt N_0
      rw [show (t.val == 31) = false from by simp only [beq_eq_false_iff_ne]; omega]; rfl)
    unfold Pipeline.Dat.leavesExact; rw [hi, hf, after10]
theorem after11 (c : Dev nD) (t : Fin cfg0.N) : (dats m 0 c).after 11 t = out11 m c t := by dsimp only [dats]
/-- At the last point the k buffer still holds what the point before left, which is what it is to hold. -/
theorem before11 (c : Dev nD) (t : Fin cfg0.N) (ht : ¬ t.val < 32) (d) : (dats m 0 c).before 11 t d = out11 m c t := by
  have hN : t.val < 33 := lt_of_lt_of_eq t.isLt N_0
  rw [(dats m 0 c).before_of_pos 11 t (by omega) rfl d]
  have hf : (cfg0.win 11).flush ⟨t.val - 1, Nat.lt_of_le_of_lt (Nat.sub_le _ _) t.isLt⟩ = false := by
    refine (flush11 _).trans ?_; simp only [show t.val - 1 = 31 from by omega]; rfl
  have hi : cfg0.idle 11 (cfg0.grid.coords ⟨t.val - 1, Nat.lt_of_le_of_lt (Nat.sub_le _ _) t.isLt⟩) = false := by
    refine (idle11 _).trans ?_; simp only [show t.val - 1 = 31 from by omega]; rfl
  rw [hf, if_neg Bool.false_ne_true]
  unfold Pipeline.Dat.left
  rw [hi]
  show (dats m 0 c).after 11 _ = _
  rw [after11]
  unfold out11
  exact canon11 m c _ _ _ _ (Fin.ext (by show min (t.val - 1) 31 = min t.val 31; omega))
/-- So at every point the obligation asks the k buffer at what it is to hold. -/
theorem leaves11 (c : Dev nD) (t : Fin cfg0.N) :
    (owns (c : Thread nD τ) (win0_11.stage (cfg0.slots t 11)) fullShare (out11 m c t) : sProp 𝕄) ⊢ (dats m 0 c).leavesExact 11 t := by
  by_cases ht : t.val < 32
  · have hi : cfg0.idle 11 (cfg0.grid.coords t) = false := (idle11 t).trans (by rw [decide_eq_true ht]; rfl)
    unfold Pipeline.Dat.leavesExact; rw [hi, after11]
  · have hi : cfg0.idle 11 (cfg0.grid.coords t) = true := (idle11 t).trans (by rw [decide_eq_false ht]; rfl)
    have hf : (cfg0.win 11).flush t = true := (flush11 t).trans (by
      have : t.val < 33 := lt_of_lt_of_eq t.isLt N_0
      rw [show (t.val == 31) = false from by simp only [beq_eq_false_iff_ne]; omega]; rfl)
    unfold Pipeline.Dat.leavesExact; rw [hi, hf, after11]
theorem after12 (c : Dev nD) (t : Fin cfg0.N) : (dats m 0 c).after 12 t = out12 m c t := by dsimp only [dats]
/-- At the last point the v buffer still holds what the point before left, which is what it is to hold. -/
theorem before12 (c : Dev nD) (t : Fin cfg0.N) (ht : ¬ t.val < 32) (d) : (dats m 0 c).before 12 t d = out12 m c t := by
  have hN : t.val < 33 := lt_of_lt_of_eq t.isLt N_0
  rw [(dats m 0 c).before_of_pos 12 t (by omega) rfl d]
  have hf : (cfg0.win 12).flush ⟨t.val - 1, Nat.lt_of_le_of_lt (Nat.sub_le _ _) t.isLt⟩ = false := by
    refine (flush12 _).trans ?_; simp only [show t.val - 1 = 31 from by omega]; rfl
  have hi : cfg0.idle 12 (cfg0.grid.coords ⟨t.val - 1, Nat.lt_of_le_of_lt (Nat.sub_le _ _) t.isLt⟩) = false := by
    refine (idle12 _).trans ?_; simp only [show t.val - 1 = 31 from by omega]; rfl
  rw [hf, if_neg Bool.false_ne_true]
  unfold Pipeline.Dat.left
  rw [hi]
  show (dats m 0 c).after 12 _ = _
  rw [after12]
  unfold out12
  exact canon12 m c _ _ _ _ (Fin.ext (by show min (t.val - 1) 31 = min t.val 31; omega))
/-- So at every point the obligation asks the v buffer at what it is to hold. -/
theorem leaves12 (c : Dev nD) (t : Fin cfg0.N) :
    (owns (c : Thread nD τ) (win0_12.stage (cfg0.slots t 12)) fullShare (out12 m c t) : sProp 𝕄) ⊢ (dats m 0 c).leavesExact 12 t := by
  by_cases ht : t.val < 32
  · have hi : cfg0.idle 12 (cfg0.grid.coords t) = false := (idle12 t).trans (by rw [decide_eq_true ht]; rfl)
    unfold Pipeline.Dat.leavesExact; rw [hi, after12]
  · have hi : cfg0.idle 12 (cfg0.grid.coords t) = true := (idle12 t).trans (by rw [decide_eq_false ht]; rfl)
    have hf : (cfg0.win 12).flush t = true := (flush12 t).trans (by
      have : t.val < 33 := lt_of_lt_of_eq t.isLt N_0
      rw [show (t.val == 31) = false from by simp only [beq_eq_false_iff_ne]; omega]; rfl)
    unfold Pipeline.Dat.leavesExact; rw [hi, hf, after12]
theorem after14 (c : Dev nD) (t : Fin cfg0.N) : (dats m 0 c).after 14 t = out14 m c t := by dsimp only [dats]
/-- At the last point the sa buffer still holds what the point before left, which is what it is to hold. -/
theorem before14 (c : Dev nD) (t : Fin cfg0.N) (ht : ¬ t.val < 32) (d) : (dats m 0 c).before 14 t d = out14 m c t := by
  have hN : t.val < 33 := lt_of_lt_of_eq t.isLt N_0
  rw [(dats m 0 c).before_of_pos 14 t (by omega) rfl d]
  have hf : (cfg0.win 14).flush ⟨t.val - 1, Nat.lt_of_le_of_lt (Nat.sub_le _ _) t.isLt⟩ = false := by
    refine (flush14 _).trans ?_; simp only [show t.val - 1 = 31 from by omega]; rfl
  have hi : cfg0.idle 14 (cfg0.grid.coords ⟨t.val - 1, Nat.lt_of_le_of_lt (Nat.sub_le _ _) t.isLt⟩) = false := by
    refine (idle14 _).trans ?_; simp only [show t.val - 1 = 31 from by omega]; rfl
  rw [hf, if_neg Bool.false_ne_true]
  unfold Pipeline.Dat.left
  rw [hi]
  show (dats m 0 c).after 14 _ = _
  rw [after14]
  unfold out14
  exact canon14 m c _ _ _ _ (Fin.ext (by show min (t.val - 1) 31 = min t.val 31; omega))
/-- So at every point the obligation asks the sa buffer at what it is to hold. -/
theorem leaves14 (c : Dev nD) (t : Fin cfg0.N) :
    (owns (c : Thread nD τ) (win0_14.stage (cfg0.slots t 14)) fullShare (out14 m c t) : sProp 𝕄) ⊢ (dats m 0 c).leavesExact 14 t := by
  by_cases ht : t.val < 32
  · have hi : cfg0.idle 14 (cfg0.grid.coords t) = false := (idle14 t).trans (by rw [decide_eq_true ht]; rfl)
    unfold Pipeline.Dat.leavesExact; rw [hi, after14]
  · have hi : cfg0.idle 14 (cfg0.grid.coords t) = true := (idle14 t).trans (by rw [decide_eq_false ht]; rfl)
    have hf : (cfg0.win 14).flush t = true := (flush14 t).trans (by
      have : t.val < 33 := lt_of_lt_of_eq t.isLt N_0
      rw [show (t.val == 31) = false from by simp only [beq_eq_false_iff_ne]; omega]; rfl)
    unfold Pipeline.Dat.leavesExact; rw [hi, hf, after14]
theorem after15 (c : Dev nD) (t : Fin cfg0.N) : (dats m 0 c).after 15 t = out15 m c t := by dsimp only [dats]
/-- At the last point the sr buffer still holds what the point before left, which is what it is to hold. -/
theorem before15 (c : Dev nD) (t : Fin cfg0.N) (ht : ¬ t.val < 32) (d) : (dats m 0 c).before 15 t d = out15 m c t := by
  have hN : t.val < 33 := lt_of_lt_of_eq t.isLt N_0
  rw [(dats m 0 c).before_of_pos 15 t (by omega) rfl d]
  have hf : (cfg0.win 15).flush ⟨t.val - 1, Nat.lt_of_le_of_lt (Nat.sub_le _ _) t.isLt⟩ = false := by
    refine (flush15 _).trans ?_; simp only [show t.val - 1 = 31 from by omega]; rfl
  have hi : cfg0.idle 15 (cfg0.grid.coords ⟨t.val - 1, Nat.lt_of_le_of_lt (Nat.sub_le _ _) t.isLt⟩) = false := by
    refine (idle15 _).trans ?_; simp only [show t.val - 1 = 31 from by omega]; rfl
  rw [hf, if_neg Bool.false_ne_true]
  unfold Pipeline.Dat.left
  rw [hi]
  show (dats m 0 c).after 15 _ = _
  rw [after15]
  unfold out15
  exact canon15 m c _ _ _ _ (Fin.ext (by show min (t.val - 1) 31 = min t.val 31; omega))
/-- So at every point the obligation asks the sr buffer at what it is to hold. -/
theorem leaves15 (c : Dev nD) (t : Fin cfg0.N) :
    (owns (c : Thread nD τ) (win0_15.stage (cfg0.slots t 15)) fullShare (out15 m c t) : sProp 𝕄) ⊢ (dats m 0 c).leavesExact 15 t := by
  by_cases ht : t.val < 32
  · have hi : cfg0.idle 15 (cfg0.grid.coords t) = false := (idle15 t).trans (by rw [decide_eq_true ht]; rfl)
    unfold Pipeline.Dat.leavesExact; rw [hi, after15]
  · have hi : cfg0.idle 15 (cfg0.grid.coords t) = true := (idle15 t).trans (by rw [decide_eq_false ht]; rfl)
    have hf : (cfg0.win 15).flush t = true := (flush15 t).trans (by
      have : t.val < 33 := lt_of_lt_of_eq t.isLt N_0
      rw [show (t.val == 31) = false from by simp only [beq_eq_false_iff_ne]; omega]; rfl)
    unfold Pipeline.Dat.leavesExact; rw [hi, hf, after15]

/-- The scratch buffers as memrefs owned at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare d)
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (dats m 0 c).leavesExact 10 t
    ∗ (dats m 0 c).leavesExact 11 t
    ∗ (dats m 0 c).leavesExact 12 t
    ∗ (∃ d, owns (c : Thread nD τ) (win0_13.stage (cfg0.slots t 13)) fullShare d)
    ∗ (dats m 0 c).leavesExact 14 t
    ∗ (dats m 0 c).leavesExact 15 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  simp only [before0, after0, before1, after1, before2, after2, before3, after3, before4, after4, before5, after5, before6, after6, before7, after7, before8, after8, before9, after9]
  by_cases ht : t.val < 32
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runAt m c t ht).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, ⟨%e10, H10⟩, ⟨%e11, H11⟩, ⟨%e12, H12⟩, H13, ⟨%e14, H14⟩, ⟨%e15, H15⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves10 m c t); unfold owns; iexists _; isplitr
      swap; · iexact H10
      ipureintro; unfold out10; rw [canon10 m c (live t) t (live_lt t) ht (live_of_lt t ht)]
      exact View.read_writes_eq_canon _ _ _ (cover10 m c t ht)
    isplitl [H11]
    · iapply (leaves11 m c t); unfold owns; iexists _; isplitr
      swap; · iexact H11
      ipureintro; unfold out11; rw [canon11 m c (live t) t (live_lt t) ht (live_of_lt t ht)]
      exact View.read_writes_eq_canon _ _ _ (cover11 m c t ht)
    isplitl [H12]
    · iapply (leaves12 m c t); unfold owns; iexists _; isplitr
      swap; · iexact H12
      ipureintro; unfold out12; rw [canon12 m c (live t) t (live_lt t) ht (live_of_lt t ht)]
      exact View.read_writes_eq_canon _ _ _ (cover12 m c t ht)
    isplitl [H13]; · iexact H13
    isplitl [H14]
    · iapply (leaves14 m c t); unfold owns; iexists _; isplitr
      swap; · iexact H14
      ipureintro; unfold out14; rw [canon14 m c (live t) t (live_lt t) ht (live_of_lt t ht)]
      exact View.read_writes_eq_canon _ _ _ (cover14 m c t ht)
    iapply (leaves15 m c t); unfold owns; iexists _; isplitr
    swap; · iexact H15
    ipureintro; unfold out15; rw [canon15 m c (live t) t (live_lt t) ht (live_of_lt t ht)]
    exact View.read_writes_eq_canon _ _ _ (cover15 m c t ht)
  · simp only [before10 m c t ht, before11 m c t ht, before12 m c t ht, before14 m c t ht, before15 m c t ht]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (tailRun c (grid0.coords t) _ _ _ _ _ _ _ _ _ _ _ _ _ _ _ _ _ _ _ _ _ _ _ _ _ _ _ _ _ _ _ _ _ _ _ _ _ _ _ _ _ _ (fun h => ht ((cond2_iff t).mp h)) ((cond3_iff t).mpr ht)
      (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H13, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10 m c t); iexact H10
    isplitl [H11]; · iapply (leaves11 m c t); iexact H11
    isplitl [H12]; · iapply (leaves12 m c t); iexact H12
    isplitl [H13]; · iexact H13
    isplitl [H14]; · iapply (leaves14 m c t); iexact H14
    iapply (leaves15 m c t); iexact H15

/-- The pipeline's body at a point is the printed body there. -/
theorem defs₀_row (t : Fin cfg0.N) :
    defs₀ (F := F) .tc cfg0.body (cfg0.bodyArgs t (cfg0.slots t)) = bodyAt0 t := by
  unfold defs₀; rw [Defs.onTc_tc]

/-- The obligation, the recurrent output forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every fair execution ends, with the five projected arrays and the arguments as named and no semaphore count left. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What is read off a final state: a window not forgotten is at its named contents, -/
theorem named {r : PUnit × MemSt nD τ sig (Elt F)} (h : Pipeline.RDat.FramePost (cfgs 0) (fun c => (dats m 0 c).toRForget forgets0) (V m) r)
    (c : Dev nD) (w : Fin cfg0.W) (hw : forgets0 w = false) :
    r.2.mem ((cfg0.spec w).arr.view.loc (c.tc : Thread nD τ)) = (dats m 0 c).arrAt w cfg0.N :=
  (Pipeline.Dat.toRForget_arrAt_iff (dats m 0 c) hw cfg0.N _).mp ((h c).1 w)
/-- an input as the region found it. -/
theorem kept {r : PUnit × MemSt nD τ sig (Elt F)} (h : Pipeline.RDat.FramePost (cfgs 0) (fun c => (dats m 0 c).toRForget forgets0) (V m) r)
    (c : Dev nD) (w : Fin cfg0.W) (hw : forgets0 w = false) (hin : (cfg0.win w).isOut = false) :
    r.2.mem ((cfg0.spec w).arr.view.loc (c.tc : Thread nD τ)) = V m c (Pipeline.arrRef spec0 w) :=
  (named m h c w hw).trans (((dats m 0 c).arrAt_in w hin _).trans (A_eq m c w))

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(kept m (h.1) c 0 rfl rfl).trans (V_main_arg0 m c),
      (((h.1) c).2 main_arg1 (Pipeline.mem_restRefs_of main_arg1 (by decide) (by decide))).trans (V_main_arg1 m c),
      (kept m (h.1) c 2 rfl rfl).trans (V_main_arg2 m c),
      (kept m (h.1) c 3 rfl rfl).trans (V_main_arg3 m c),
      (kept m (h.1) c 4 rfl rfl).trans (V_main_arg4 m c),
      (kept m (h.1) c 5 rfl rfl).trans (V_main_arg5 m c),
      (kept m (h.1) c 6 rfl rfl).trans (V_main_arg6 m c),
      (kept m (h.1) c 7 rfl rfl).trans (V_main_arg7 m c),
      (kept m (h.1) c 8 rfl rfl).trans (V_main_arg8 m c),
      (kept m (h.1) c 9 rfl rfl).trans (V_main_arg9 m c)⟩) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ProjIdeal.Hand

end
-- ==== Proof.ProjRef.lean ====
/-
  The projection's reference: its five results, entry by entry, are the columns of the normalised, modulated token times the input
  weights.
-/
module

public import proofs.«01_k».proof.Proof.RefTerms
public import proofs.«01_k».proof.Proof.Gen.ProjRefIdeal.Run

@[expose] public section

noncomputable section

namespace Cert.ProjRefIdeal.Read

open Cert.ProjRefIdeal Cert.ProjRefIdeal.Gen Cert.Rows Cert.RefTerms Idealize.ShloMosaic Idealize.ShloMosaic.TcCoe Idealize.SL.Sem

/-- The projected row of token `n`, which belongs to batch `b`: all 5632 columns. -/
def spec (x : FVec Ideal S16384x1024 .f32) (md : FVec Ideal S4x3x3x1024 .f32) (pre : FVec Ideal S3x1024 .f32)
    (w : FVec Ideal S1024x5632 .bf16) (b : Fin 4) (n : Fin 16384) : Row 5632 :=
  times (modulated (fun d => x (ix2 n d)) (fun d => pre (ix2 1 d)) (fun d => md (ix4 b 1 1 d)) (fun d => md (ix4 b 1 0 d)))
    fun i j => w (ix2 i j)

/-- The same as an array over batches and tokens. -/
def projT (x : FVec Ideal S16384x1024 .f32) (md : FVec Ideal S4x3x3x1024 .f32) (pre : FVec Ideal S3x1024 .f32)
    (w : FVec Ideal S1024x5632 .bf16) : FVec Ideal S4x4096x5632 .f32 :=
  guT (hT (shapeCast S4x4096x1024 x shapeCasts_S16384x1024_S4x4096x1024)
    (extractStridedSlice S4x1x1x1024 ![0, 1, 0, 0] md slices_S4x3x3x1024_S4x1x1x1024_0_1_0_0)
    (extractStridedSlice S4x1x1x1024 ![0, 1, 1, 0] md slices_S4x3x3x1024_S4x1x1x1024_0_1_1_0)
    (extractStridedSlice S1x1024 ![1, 0] pre slices_S3x1024_S1x1024_1_0)) w

variable (x : FVec Ideal S16384x1024 .f32) (md : FVec Ideal S4x3x3x1024 .f32) (pre : FVec Ideal S3x1024 .f32)
  (w : FVec Ideal S1024x5632 .bf16)

/-- The array at a token and a column. -/
theorem projT_at (b : Fin 4) (r : Fin 4096) (d : Fin 5632) :
    projT x md pre w (ix3 b r d) = spec x md pre w b ⟨b.val * 4096 + r.val, by omega⟩ d := by
  unfold projT
  rw [guT_at, hT_at, unflatten_at]
  unfold spec
  congr 2
  all_goals funext d
  all_goals pointwise

/-- The query columns, scaled, as head pairs: batch, pair, token, lane. -/
def q : FVec Ideal S4x4x4096x128 .bf16 := fun i =>
  spec x md pre w (i 0) ⟨(i 0).val * 4096 + (i 2).val, by have h0 : (i 0).val < 4 := (i 0).isLt; have h2 : (i 2).val < 4096 := (i 2).isLt; omega⟩
    ⟨(i 1).val * 128 + (i 3).val, by have h1 : (i 1).val < 4 := (i 1).isLt; have h3 : (i 3).val < 128 := (i 3).isLt; omega⟩
  * Ideal.ofBits .f32 0x3E38AA3B#32
/-- The key columns likewise. -/
def k : FVec Ideal S4x4x4096x128 .bf16 := fun i =>
  spec x md pre w (i 0) ⟨(i 0).val * 4096 + (i 2).val, by have h0 : (i 0).val < 4 := (i 0).isLt; have h2 : (i 2).val < 4096 := (i 2).isLt; omega⟩
    ⟨512 + ((i 1).val * 128 + (i 3).val), by have h1 : (i 1).val < 4 := (i 1).isLt; have h3 : (i 3).val < 128 := (i 3).isLt; omega⟩
/-- The value columns, transposed: batch, head, feature, token. -/
def v : FVec Ideal S4x8x64x4096 .bf16 := fun i =>
  spec x md pre w (i 0) ⟨(i 0).val * 4096 + (i 3).val, by have h0 : (i 0).val < 4 := (i 0).isLt; have h2 : (i 3).val < 4096 := (i 3).isLt; omega⟩
    ⟨1024 + ((i 1).val * 64 + (i 2).val), by have h1 : (i 1).val < 8 := (i 1).isLt; have h3 : (i 2).val < 64 := (i 2).isLt; omega⟩
/-- A branch's gate columns, which begin at `o`. -/
def gate (o : Nat) (ho : o + 1024 ≤ 5632) : FVec Ideal S16384x1024 .bf16 := fun i =>
  spec x md pre w ⟨(i 0).val / 4096, by have h0 : (i 0).val < 16384 := (i 0).isLt; omega⟩ (i 0)
    ⟨o + (i 1).val, by have h1 : (i 1).val < 1024 := (i 1).isLt; omega⟩

/-- The reference's query result; -/
theorem q_eq : transpose S4x4x4096x128 [0, 2, 1, 3] (shapeCast S4x4096x4x128 (truncf .bf16 (mulf
      (extractStridedSlice S4x4096x512 ![0, 0, 0] (projT x md pre w) slices_S4x4096x5632_S4x4096x512_0_0_0)
      (broadcastInDim S4x4096x512 ![] bcast_S_S4x4096x512 (constant S_ .f32 0x3E38AA3B#32))) bitsLt_bf16_f32)
      shapeCasts_S4x4096x512_S4x4096x4x128) transposes_S4x4096x4x128_S4x4x4096x128_0_2_1_3 = q x md pre w := by
  funext i
  pointwise [projT_at, q]
/-- its keys; -/
theorem k_eq : transpose S4x4x4096x128 [0, 2, 1, 3] (shapeCast S4x4096x4x128 (truncf .bf16
      (extractStridedSlice S4x4096x512 ![0, 0, 512] (projT x md pre w) slices_S4x4096x5632_S4x4096x512_0_0_512) bitsLt_bf16_f32)
      shapeCasts_S4x4096x512_S4x4096x4x128) transposes_S4x4096x4x128_S4x4x4096x128_0_2_1_3 = k x md pre w := by
  funext i
  pointwise [projT_at, k]
/-- its values; -/
theorem v_eq : transpose S4x8x64x4096 [0, 2, 3, 1] (shapeCast S4x4096x8x64 (truncf .bf16
      (extractStridedSlice S4x4096x512 ![0, 0, 1024] (projT x md pre w) slices_S4x4096x5632_S4x4096x512_0_0_1024) bitsLt_bf16_f32)
      shapeCasts_S4x4096x512_S4x4096x8x64) transposes_S4x4096x8x64_S4x8x64x4096_0_2_3_1 = v x md pre w := by
  funext i
  pointwise [projT_at, v]
/-- and its gates, of the attention branch -/
theorem sa_eq : shapeCast S16384x1024 (truncf .bf16 (extractStridedSlice S4x4096x1024 ![0, 0, 3584] (projT x md pre w) slices_S4x4096x5632_S4x4096x1024_0_0_3584)
      bitsLt_bf16_f32) shapeCasts_S4x4096x1024_S16384x1024 = gate x md pre w 3584 (by omega) := by
  funext i
  pointwise [projT_at, gate, token]
/-- and of the recurrent one. -/
theorem sr_eq : shapeCast S16384x1024 (truncf .bf16 (extractStridedSlice S4x4096x1024 ![0, 0, 4608] (projT x md pre w) slices_S4x4096x5632_S4x4096x1024_0_0_4608)
      bitsLt_bf16_f32) shapeCasts_S4x4096x1024_S16384x1024 = gate x md pre w 4608 (by omega) := by
  funext i
  pointwise [projT_at, gate, token]

end Cert.ProjRefIdeal.Read

end
-- ==== Proof.ProjWhole.lean ====
/-
  The projection's kernel: the arrays it leaves. Every entry of the five projected results is the specification's; the point that
  writes a block back may be the one after the point that projected it.
-/
module

public import proofs.«01_k».proof.Proof.ProjBlock
public import proofs.«01_k».proof.Proof.ProjFrame
public import proofs.«01_k».proof.Proof.ProjRef
public import proofs.«01_k».proof.Proof.Tiles

@[expose] public section

set_option maxRecDepth 16384

noncomputable section

namespace Cert.ProjIdeal.Whole

open Cert.ProjIdeal Cert.ProjIdeal.Gen Cert.ProjIdeal.Hand Cert.Rows Cert.Tiles Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The host's reshape before the call: the modulation array as nine rows of 1024 per batch. -/
theorem V_mod : V m c main_v0 = shapeCast S4x9x1024 (m ((c : Thread nD τ).loc main_arg1) : FVec Ideal S4x3x3x1024 .f32) shapeCasts_S4x3x3x1024_S4x9x1024 := by
  simp only [V, hostOps0]
  after_results_simp
  rfl

/-- Row 3 of the nine is the shift of the middle sublayer, -/
theorem shift_at (x : FVec Ideal S4x3x3x1024 .f32) (b : Fin 4) (d : Fin 1024) :
    shapeCast S4x9x1024 x shapeCasts_S4x3x3x1024_S4x9x1024 (ix3 b 3 d) = x (ix4 b 1 0 d) := by
  pointwise
/-- row 4 its scale. -/
theorem scale_at (x : FVec Ideal S4x3x3x1024 .f32) (b : Fin 4) (d : Fin 1024) :
    shapeCast S4x9x1024 x shapeCasts_S4x3x3x1024_S4x9x1024 (ix3 b 4 d) = x (ix4 b 1 1 d) := by
  pointwise

/-- The input rows move down one block per point that projects: -/
theorem index0 : ∀ t : Fin grid0.N, win0_0.index t = ![min t.val 31, 0] := by decide +kernel
/-- the block at an index. -/
theorem blk0 (ht : t.val < 32) (r : Fin 512) (d : Fin 1024) : iblk m c 0 t (ix2 r d) = (m ((c : Thread nD τ).loc main_arg0) : FVec Ideal S16384x1024 .f32)
    (ix2 ⟨512 * t.val + r.val, by omega⟩ d) := by
  show V m c main_arg0 ((win0_0.rect t).emb (ix2 r d)) = _
  rw [V_main_arg0]
  congr 1
  funext a
  refine Fin.ext ((win0_0.rect_emb_val t _ a).trans ?_)
  rw [index0]
  match a with
  | ⟨0, _⟩ => show min t.val 31 * 512 + r.val = 512 * t.val + r.val; omega
  | ⟨1, _⟩ => show 0 * 1024 + d.val = d.val; omega

/-- The modulation rows stay on a batch for eight points: -/
theorem index1 : ∀ t : Fin grid0.N, win0_1.index t = ![min t.val 31 / 8, 0, 0] := by decide +kernel
/-- row `k` of the nine at a feature. -/
theorem row1 (k : Fin 9) (d : Fin 1024) (ht : t.val < 32) : iblk m c 1 t (ix3 0 k d) = V m c main_v0 (ix3 ⟨t.val / 8, by omega⟩ k d) := by
  show V m c main_v0 ((win0_1.rect t).emb (ix3 0 k d)) = _
  congr 1
  funext a
  refine Fin.ext ((win0_1.rect_emb_val t _ a).trans ?_)
  rw [index1]
  match a with
  | ⟨0, _⟩ => show min t.val 31 / 8 * 1 + 0 = t.val / 8; omega
  | ⟨1, _⟩ => show 0 * 9 + k.val = k.val; omega
  | ⟨2, _⟩ => show 0 * 1024 + d.val = d.val; omega
/-- The shift at a feature, -/
theorem blk1_shift (ht : t.val < 32) (d : Fin 1024) : iblk m c 1 t (ix3 0 3 d) = (m ((c : Thread nD τ).loc main_arg1) : FVec Ideal S4x3x3x1024 .f32)
    (ix4 ⟨t.val / 8, by omega⟩ 1 0 d) := (row1 m c t 3 d ht).trans ((congrFun (V_mod m c) _).trans (shift_at _ _ d))
/-- the scale. -/
theorem blk1_scale (ht : t.val < 32) (d : Fin 1024) : iblk m c 1 t (ix3 0 4 d) = (m ((c : Thread nD τ).loc main_arg1) : FVec Ideal S4x3x3x1024 .f32)
    (ix4 ⟨t.val / 8, by omega⟩ 1 1 d) := (row1 m c t 4 d ht).trans ((congrFun (V_mod m c) _).trans (scale_at _ _ d))

/-- The input gains are staged whole at every point. -/
theorem index2 : ∀ t : Fin grid0.N, win0_2.index t = ![0, 0] := by decide +kernel
/-- So the block is the array. -/
theorem blk2 : iblk m c 2 t = (m ((c : Thread nD τ).loc main_arg2) : FVec Ideal S3x1024 .f32) := by
  funext i
  show V m c main_arg2 ((win0_2.rect t).emb i) = _
  rw [V_main_arg2]
  congr 1
  funext a
  exact Fin.ext (win0_2.rect_emb_val_of_index_zero t a (by rw [index2]; match a with | ⟨0, _⟩ => rfl | ⟨1, _⟩ => rfl) i)

/-- The input weights are staged whole at every point. -/
theorem index3 : ∀ t : Fin grid0.N, win0_3.index t = ![0, 0] := by decide +kernel
/-- So the block is the array. -/
theorem blk3 : iblk m c 3 t = (m ((c : Thread nD τ).loc main_arg3) : FVec Ideal S1024x5632 .bf16) := by
  funext i
  show V m c main_arg3 ((win0_3.rect t).emb i) = _
  rw [V_main_arg3]
  congr 1
  funext a
  exact Fin.ext (win0_3.rect_emb_val_of_index_zero t a (by rw [index3]; match a with | ⟨0, _⟩ => rfl | ⟨1, _⟩ => rfl) i)

/-- The specification's projected row of token `n` of batch `b`. -/
def row (b : Fin 4) (n : Fin 16384) : Row 5632 :=
  Cert.ProjRefIdeal.Read.spec (m ((c.tc : Thread nD τ).loc main_arg0)) (m ((c.tc : Thread nD τ).loc main_arg1)) (m ((c.tc : Thread nD τ).loc main_arg2))
    (m ((c.tc : Thread nD τ).loc main_arg3)) b n

/-- A projecting point's rows are the specification's. -/
theorem pRow_eq (ht : t.val < 32) (r : Fin 512) :
    Block.pRow (iblk m c 0 t) (iblk m c 1 t) (iblk m c 2 t) (iblk m c 3 t) r = row m c ⟨t.val / 8, by omega⟩ ⟨512 * t.val + r.val, by omega⟩ := by
  unfold Block.pRow row Cert.ProjRefIdeal.Read.spec
  rw [blk2, blk3]
  simp only [blk0 m c t ht, blk1_shift m c t ht, blk1_scale m c t ht]

/-- The point that writes back block `u`: `u` itself, but the last block is written back by the last point. -/
def writer (u : Nat) : Fin cfg0.N := ⟨if u < 31 then u else 32, by rw [show cfg0.N = 33 from N_0]; split <;> omega⟩
/-- Its block is `u`, -/
theorem writer_block (u : Nat) (hu : u < 32) : min (writer u).val 31 = u := by
  show min (if u < 31 then u else 32) 31 = u
  split <;> omega
/-- and it writes back. -/
theorem writer_flush (u : Nat) : (!((writer u).val == 31)) = true := by
  show (!((if u < 31 then u else 32) == 31)) = true
  have h : ((if u < 31 then u else 32) == 31) = false := by
    simp only [beq_eq_false_iff_ne]
    split <;> omega
  rw [h]; rfl

/-! ## The query array -/

/-- The query array the kernel is to leave. -/
def result10 : FVec Ideal S4x4x4096x128 .bf16 :=
  Cert.ProjRefIdeal.Read.q (m ((c.tc : Thread nD τ).loc main_arg0)) (m ((c.tc : Thread nD τ).loc main_arg1)) (m ((c.tc : Thread nD τ).loc main_arg2))
    (m ((c.tc : Thread nD τ).loc main_arg3))

/-- Where the block of the point that projects lies. -/
theorem index10 : ∀ t : Fin grid0.N, win0_10.index t = ![min t.val 31 / 8, 0, min t.val 31 % 8, 0] := by decide +kernel
/-- An entry of that block, in the array. -/
theorem emb10 (z : Fin 1) (p : Fin 4) (r : Fin 512) (l : Fin 128) : (win0_10.rect t).emb (ix4 z p r l)
    = ix4 ⟨min t.val 31 / 8, by omega⟩ p ⟨512 * (min t.val 31 % 8) + r.val, by omega⟩ l := by
  funext a
  refine Fin.ext ((win0_10.rect_emb_val t _ a).trans ?_)
  rw [index10]
  match a with
  | ⟨0, _⟩ => show min t.val 31 / 8 * 1 + z.val = min t.val 31 / 8; omega
  | ⟨1, _⟩ => show 0 * 4 + p.val = p.val; omega
  | ⟨2, _⟩ => show min t.val 31 % 8 * 512 + r.val = 512 * (min t.val 31 % 8) + r.val; omega
  | ⟨3, _⟩ => show 0 * 128 + l.val = l.val; omega
/-- What point `t` leaves in the buffer is its block of the array. -/
theorem out10_eq : out10 m c t = fun y => result10 m c ((win0_10.rect t).emb y) := by
  unfold out10
  rw [show View.canon (runAt m c (live t) (live_lt t)).1 = Block.qBlk (iblk m c 0 (live t)) (iblk m c 1 (live t)) (iblk m c 2 (live t)) (iblk m c 3 (live t))
    from Block.canon_of_agrees (Block.agrees10 ..) (cover10 m c (live t) (live_lt t))]
  funext y
  obtain ⟨z, p, r, l, rfl⟩ : ∃ (z : Fin 1) (p : Fin 4) (r : Fin 512) (l : Fin 128), y = ix4 z p r l := ⟨y 0, y 1, y 2, y 3, by pointwise⟩
  rw [emb10]
  have hL : (live t).val = min t.val 31 := rfl
  have hb : (⟨(live t).val / 8, by omega⟩ : Fin 4) = ⟨min t.val 31 / 8, by omega⟩ := rfl
  have hn : (⟨512 * (live t).val + r.val, by omega⟩ : Fin 16384)
      = ⟨min t.val 31 / 8 * 4096 + (512 * (min t.val 31 % 8) + r.val), by omega⟩ := Fin.ext (by simp only [hL]; omega)
  unfold Block.qBlk result10 Cert.ProjRefIdeal.Read.q
  pointwise [pRow_eq m c (live t) (live_lt t), row, hb, hn]
/-- So what it writes back is. -/
theorem flushed10 : (dats m 0 c).flushed 10 t = (win0_10.blk t).view.read (Elt Ideal) (result10 m c) := by
  show (dats m 0 c).after 10 t = _
  rw [after10, out10_eq]
  rfl
/-- The blocks written back cover the array. -/
theorem covers10 (i : S4x4x4096x128.Idx) : ∃ t : Fin cfg0.N, (cfg0.win 10).flush t = true ∧ i ∈ ((cfg0.win 10).blk t).view.set := by
    have h0 : (i 0).val < 4 := (i 0).isLt
    have h2 : (i 2).val < 4096 := (i 2).isLt
    have hu : (i 0).val * 8 + (i 2).val / 512 < 32 := by omega
    refine ⟨writer ((i 0).val * 8 + (i 2).val / 512), (flush10 _).trans (writer_flush _), ?_⟩
    have hi : (win0_10.rect (writer ((i 0).val * 8 + (i 2).val / 512))).emb (ix4 0 (i 1) ⟨(i 2).val % 512, Nat.mod_lt _ (by omega)⟩ (i 3)) = i := by
      refine (emb10 _ 0 (i 1) ⟨(i 2).val % 512, Nat.mod_lt _ (by omega)⟩ (i 3)).trans ?_
      funext a
      refine Fin.ext ?_
      match a with
      | ⟨0, _⟩ => show min (writer _).val 31 / 8 = (i 0).val; rw [writer_block _ hu]; omega
      | ⟨1, _⟩ => rfl
      | ⟨2, _⟩ => show 512 * (min (writer _).val 31 % 8) + (i 2).val % 512 = (i 2).val; rw [writer_block _ hu]; omega
      | ⟨3, _⟩ => rfl
    exact (congrArg (· ∈ ((cfg0.win 10).blk (writer ((i 0).val * 8 + (i 2).val / 512))).view.set) hi).mp (View.emb_mem_set (v := ((cfg0.win 10).blk _).view) (ix4 0 (i 1) ⟨(i 2).val % 512, Nat.mod_lt _ (by omega)⟩ (i 3)))
/-- The array after the run. -/
theorem final10 : (dats m 0 c).arrAt 10 cfg0.N = result10 m c :=
  (dats m 0 c).arrAt_eq_of_cover 10 (result10 m c) (fun t _ => flushed10 m c t) (covers10)

/-! ## The key array -/

/-- The key array the kernel is to leave. -/
def result11 : FVec Ideal S4x4x4096x128 .bf16 :=
  Cert.ProjRefIdeal.Read.k (m ((c.tc : Thread nD τ).loc main_arg0)) (m ((c.tc : Thread nD τ).loc main_arg1)) (m ((c.tc : Thread nD τ).loc main_arg2))
    (m ((c.tc : Thread nD τ).loc main_arg3))

/-- Where the block of the point that projects lies. -/
theorem index11 : ∀ t : Fin grid0.N, win0_11.index t = ![min t.val 31 / 8, 0, min t.val 31 % 8, 0] := by decide +kernel
/-- An entry of that block, in the array. -/
theorem emb11 (z : Fin 1) (p : Fin 4) (r : Fin 512) (l : Fin 128) : (win0_11.rect t).emb (ix4 z p r l)
    = ix4 ⟨min t.val 31 / 8, by omega⟩ p ⟨512 * (min t.val 31 % 8) + r.val, by omega⟩ l := by
  funext a
  refine Fin.ext ((win0_11.rect_emb_val t _ a).trans ?_)
  rw [index11]
  match a with
  | ⟨0, _⟩ => show min t.val 31 / 8 * 1 + z.val = min t.val 31 / 8; omega
  | ⟨1, _⟩ => show 0 * 4 + p.val = p.val; omega
  | ⟨2, _⟩ => show min t.val 31 % 8 * 512 + r.val = 512 * (min t.val 31 % 8) + r.val; omega
  | ⟨3, _⟩ => show 0 * 128 + l.val = l.val; omega
/-- What point `t` leaves in the buffer is its block of the array. -/
theorem out11_eq : out11 m c t = fun y => result11 m c ((win0_11.rect t).emb y) := by
  unfold out11
  rw [show View.canon (runAt m c (live t) (live_lt t)).2.1 = Block.kBlk (iblk m c 0 (live t)) (iblk m c 1 (live t)) (iblk m c 2 (live t)) (iblk m c 3 (live t))
    from Block.canon_of_agrees (Block.agrees11 ..) (cover11 m c (live t) (live_lt t))]
  funext y
  obtain ⟨z, p, r, l, rfl⟩ : ∃ (z : Fin 1) (p : Fin 4) (r : Fin 512) (l : Fin 128), y = ix4 z p r l := ⟨y 0, y 1, y 2, y 3, by pointwise⟩
  rw [emb11]
  have hL : (live t).val = min t.val 31 := rfl
  have hb : (⟨(live t).val / 8, by omega⟩ : Fin 4) = ⟨min t.val 31 / 8, by omega⟩ := rfl
  have hn : (⟨512 * (live t).val + r.val, by omega⟩ : Fin 16384)
      = ⟨min t.val 31 / 8 * 4096 + (512 * (min t.val 31 % 8) + r.val), by omega⟩ := Fin.ext (by simp only [hL]; omega)
  unfold Block.kBlk result11 Cert.ProjRefIdeal.Read.k
  pointwise [pRow_eq m c (live t) (live_lt t), row, hb, hn]
/-- So what it writes back is. -/
theorem flushed11 : (dats m 0 c).flushed 11 t = (win0_11.blk t).view.read (Elt Ideal) (result11 m c) := by
  show (dats m 0 c).after 11 t = _
  rw [after11, out11_eq]
  rfl
/-- The blocks written back cover the array. -/
theorem covers11 (i : S4x4x4096x128.Idx) : ∃ t : Fin cfg0.N, (cfg0.win 11).flush t = true ∧ i ∈ ((cfg0.win 11).blk t).view.set := by
    have h0 : (i 0).val < 4 := (i 0).isLt
    have h2 : (i 2).val < 4096 := (i 2).isLt
    have hu : (i 0).val * 8 + (i 2).val / 512 < 32 := by omega
    refine ⟨writer ((i 0).val * 8 + (i 2).val / 512), (flush11 _).trans (writer_flush _), ?_⟩
    have hi : (win0_11.rect (writer ((i 0).val * 8 + (i 2).val / 512))).emb (ix4 0 (i 1) ⟨(i 2).val % 512, Nat.mod_lt _ (by omega)⟩ (i 3)) = i := by
      refine (emb11 _ 0 (i 1) ⟨(i 2).val % 512, Nat.mod_lt _ (by omega)⟩ (i 3)).trans ?_
      funext a
      refine Fin.ext ?_
      match a with
      | ⟨0, _⟩ => show min (writer _).val 31 / 8 = (i 0).val; rw [writer_block _ hu]; omega
      | ⟨1, _⟩ => rfl
      | ⟨2, _⟩ => show 512 * (min (writer _).val 31 % 8) + (i 2).val % 512 = (i 2).val; rw [writer_block _ hu]; omega
      | ⟨3, _⟩ => rfl
    exact (congrArg (· ∈ ((cfg0.win 11).blk (writer ((i 0).val * 8 + (i 2).val / 512))).view.set) hi).mp (View.emb_mem_set (v := ((cfg0.win 11).blk _).view) (ix4 0 (i 1) ⟨(i 2).val % 512, Nat.mod_lt _ (by omega)⟩ (i 3)))
/-- The array after the run. -/
theorem final11 : (dats m 0 c).arrAt 11 cfg0.N = result11 m c :=
  (dats m 0 c).arrAt_eq_of_cover 11 (result11 m c) (fun t _ => flushed11 m c t) (covers11)

/-! ## The value array -/

/-- The value array the kernel is to leave. -/
def result12 : FVec Ideal S4x8x64x4096 .bf16 :=
  Cert.ProjRefIdeal.Read.v (m ((c.tc : Thread nD τ).loc main_arg0)) (m ((c.tc : Thread nD τ).loc main_arg1)) (m ((c.tc : Thread nD τ).loc main_arg2))
    (m ((c.tc : Thread nD τ).loc main_arg3))

/-- Where the block of the point that projects lies. -/
theorem index12 : ∀ t : Fin grid0.N, win0_12.index t = ![min t.val 31 / 8, 0, 0, min t.val 31 % 8] := by decide +kernel
/-- An entry of that block, in the array. -/
theorem emb12 (z : Fin 1) (h : Fin 8) (e : Fin 64) (r : Fin 512) : (win0_12.rect t).emb (ix4 z h e r)
    = ix4 ⟨min t.val 31 / 8, by omega⟩ h e ⟨512 * (min t.val 31 % 8) + r.val, by omega⟩ := by
  funext a
  refine Fin.ext ((win0_12.rect_emb_val t _ a).trans ?_)
  rw [index12]
  match a with
  | ⟨0, _⟩ => show min t.val 31 / 8 * 1 + z.val = min t.val 31 / 8; omega
  | ⟨1, _⟩ => show 0 * 8 + h.val = h.val; omega
  | ⟨2, _⟩ => show 0 * 64 + e.val = e.val; omega
  | ⟨3, _⟩ => show min t.val 31 % 8 * 512 + r.val = 512 * (min t.val 31 % 8) + r.val; omega
/-- What point `t` leaves in the buffer is its block of the array. -/
theorem out12_eq : out12 m c t = fun y => result12 m c ((win0_12.rect t).emb y) := by
  unfold out12
  rw [show View.canon (runAt m c (live t) (live_lt t)).2.2.1 = Block.vBlk (iblk m c 0 (live t)) (iblk m c 1 (live t)) (iblk m c 2 (live t)) (iblk m c 3 (live t))
    from Block.canon_of_agrees (Block.agrees12 ..) (cover12 m c (live t) (live_lt t))]
  funext y
  obtain ⟨z, h, e, r, rfl⟩ : ∃ (z : Fin 1) (h : Fin 8) (e : Fin 64) (r : Fin 512), y = ix4 z h e r := ⟨y 0, y 1, y 2, y 3, by pointwise⟩
  rw [emb12]
  have hL : (live t).val = min t.val 31 := rfl
  have hb : (⟨(live t).val / 8, by omega⟩ : Fin 4) = ⟨min t.val 31 / 8, by omega⟩ := rfl
  have hn : (⟨512 * (live t).val + r.val, by omega⟩ : Fin 16384)
      = ⟨min t.val 31 / 8 * 4096 + (512 * (min t.val 31 % 8) + r.val), by omega⟩ := Fin.ext (by simp only [hL]; omega)
  unfold Block.vBlk result12 Cert.ProjRefIdeal.Read.v
  pointwise [pRow_eq m c (live t) (live_lt t), row, hb, hn]
/-- So what it writes back is. -/
theorem flushed12 : (dats m 0 c).flushed 12 t = (win0_12.blk t).view.read (Elt Ideal) (result12 m c) := by
  show (dats m 0 c).after 12 t = _
  rw [after12, out12_eq]
  rfl
/-- The blocks written back cover the array. -/
theorem covers12 (i : S4x8x64x4096.Idx) : ∃ t : Fin cfg0.N, (cfg0.win 12).flush t = true ∧ i ∈ ((cfg0.win 12).blk t).view.set := by
    have h0 : (i 0).val < 4 := (i 0).isLt
    have h3 : (i 3).val < 4096 := (i 3).isLt
    have hu : (i 0).val * 8 + (i 3).val / 512 < 32 := by omega
    refine ⟨writer ((i 0).val * 8 + (i 3).val / 512), (flush12 _).trans (writer_flush _), ?_⟩
    have hi : (win0_12.rect (writer ((i 0).val * 8 + (i 3).val / 512))).emb (ix4 0 (i 1) (i 2) ⟨(i 3).val % 512, Nat.mod_lt _ (by omega)⟩) = i := by
      refine (emb12 _ 0 (i 1) (i 2) ⟨(i 3).val % 512, Nat.mod_lt _ (by omega)⟩).trans ?_
      funext a
      refine Fin.ext ?_
      match a with
      | ⟨0, _⟩ => show min (writer _).val 31 / 8 = (i 0).val; rw [writer_block _ hu]; omega
      | ⟨1, _⟩ => rfl
      | ⟨2, _⟩ => rfl
      | ⟨3, _⟩ => show 512 * (min (writer _).val 31 % 8) + (i 3).val % 512 = (i 3).val; rw [writer_block _ hu]; omega
    exact (congrArg (· ∈ ((cfg0.win 12).blk (writer ((i 0).val * 8 + (i 3).val / 512))).view.set) hi).mp (View.emb_mem_set (v := ((cfg0.win 12).blk _).view) (ix4 0 (i 1) (i 2) ⟨(i 3).val % 512, Nat.mod_lt _ (by omega)⟩))
/-- The array after the run. -/
theorem final12 : (dats m 0 c).arrAt 12 cfg0.N = result12 m c :=
  (dats m 0 c).arrAt_eq_of_cover 12 (result12 m c) (fun t _ => flushed12 m c t) (covers12)

/-! ## The attention gate's array -/

/-- The attention gate's array the kernel is to leave. -/
def result14 : FVec Ideal S16384x1024 .bf16 :=
  Cert.ProjRefIdeal.Read.gate (m ((c.tc : Thread nD τ).loc main_arg0)) (m ((c.tc : Thread nD τ).loc main_arg1)) (m ((c.tc : Thread nD τ).loc main_arg2))
    (m ((c.tc : Thread nD τ).loc main_arg3)) 3584 (by omega)

/-- Where the block of the point that projects lies. -/
theorem index14 : ∀ t : Fin grid0.N, win0_14.index t = ![min t.val 31, 0] := by decide +kernel
/-- An entry of that block, in the array. -/
theorem emb14 (r : Fin 512) (d : Fin 1024) : (win0_14.rect t).emb (ix2 r d) = ix2 ⟨512 * min t.val 31 + r.val, by omega⟩ d := by
  funext a
  refine Fin.ext ((win0_14.rect_emb_val t _ a).trans ?_)
  rw [index14]
  match a with
  | ⟨0, _⟩ => show min t.val 31 * 512 + r.val = 512 * min t.val 31 + r.val; omega
  | ⟨1, _⟩ => show 0 * 1024 + d.val = d.val; omega
/-- What point `t` leaves in the buffer is its block of the array. -/
theorem out14_eq : out14 m c t = fun y => result14 m c ((win0_14.rect t).emb y) := by
  unfold out14
  rw [show View.canon (runAt m c (live t) (live_lt t)).2.2.2.1 = Block.gBlk (iblk m c 0 (live t)) (iblk m c 1 (live t)) (iblk m c 2 (live t)) (iblk m c 3 (live t)) 3584 (by omega)
    from Block.canon_of_agrees (Block.agrees14 ..) (cover14 m c (live t) (live_lt t))]
  funext y
  obtain ⟨r, d, rfl⟩ : ∃ (r : Fin 512) (d : Fin 1024), y = ix2 r d := ⟨y 0, y 1, by pointwise⟩
  rw [emb14]
  have hL : (live t).val = min t.val 31 := rfl
  have hb : (⟨(live t).val / 8, by omega⟩ : Fin 4) = ⟨(512 * min t.val 31 + r.val) / 4096, by omega⟩ := Fin.ext (by simp only [hL]; omega)
  have hn : (⟨512 * (live t).val + r.val, by omega⟩ : Fin 16384) = ⟨512 * min t.val 31 + r.val, by omega⟩ := rfl
  unfold Block.gBlk result14 Cert.ProjRefIdeal.Read.gate
  pointwise [pRow_eq m c (live t) (live_lt t), row, hb, hn]
/-- So what it writes back is. -/
theorem flushed14 : (dats m 0 c).flushed 14 t = (win0_14.blk t).view.read (Elt Ideal) (result14 m c) := by
  show (dats m 0 c).after 14 t = _
  rw [after14, out14_eq]
  rfl
/-- The blocks written back cover the array. -/
theorem covers14 (i : S16384x1024.Idx) : ∃ t : Fin cfg0.N, (cfg0.win 14).flush t = true ∧ i ∈ ((cfg0.win 14).blk t).view.set := by
    have h0 : (i 0).val < 16384 := (i 0).isLt
    have hu : (i 0).val / 512 < 32 := by omega
    refine ⟨writer ((i 0).val / 512), (flush14 _).trans (writer_flush _), ?_⟩
    have hi : (win0_14.rect (writer ((i 0).val / 512))).emb (ix2 ⟨(i 0).val % 512, Nat.mod_lt _ (by omega)⟩ (i 1)) = i := by
      refine (emb14 _ ⟨(i 0).val % 512, Nat.mod_lt _ (by omega)⟩ (i 1)).trans ?_
      funext a
      refine Fin.ext ?_
      match a with
      | ⟨0, _⟩ => show 512 * min (writer _).val 31 + (i 0).val % 512 = (i 0).val; rw [writer_block _ hu]; omega
      | ⟨1, _⟩ => rfl
    exact (congrArg (· ∈ ((cfg0.win 14).blk (writer ((i 0).val / 512))).view.set) hi).mp (View.emb_mem_set (v := ((cfg0.win 14).blk _).view) (ix2 ⟨(i 0).val % 512, Nat.mod_lt _ (by omega)⟩ (i 1)))
/-- The array after the run. -/
theorem final14 : (dats m 0 c).arrAt 14 cfg0.N = result14 m c :=
  (dats m 0 c).arrAt_eq_of_cover 14 (result14 m c) (fun t _ => flushed14 m c t) (covers14)

/-! ## The recurrent gate's array -/

/-- The recurrent gate's array the kernel is to leave. -/
def result15 : FVec Ideal S16384x1024 .bf16 :=
  Cert.ProjRefIdeal.Read.gate (m ((c.tc : Thread nD τ).loc main_arg0)) (m ((c.tc : Thread nD τ).loc main_arg1)) (m ((c.tc : Thread nD τ).loc main_arg2))
    (m ((c.tc : Thread nD τ).loc main_arg3)) 4608 (by omega)

/-- Where the block of the point that projects lies. -/
theorem index15 : ∀ t : Fin grid0.N, win0_15.index t = ![min t.val 31, 0] := by decide +kernel
/-- An entry of that block, in the array. -/
theorem emb15 (r : Fin 512) (d : Fin 1024) : (win0_15.rect t).emb (ix2 r d) = ix2 ⟨512 * min t.val 31 + r.val, by omega⟩ d := by
  funext a
  refine Fin.ext ((win0_15.rect_emb_val t _ a).trans ?_)
  rw [index15]
  match a with
  | ⟨0, _⟩ => show min t.val 31 * 512 + r.val = 512 * min t.val 31 + r.val; omega
  | ⟨1, _⟩ => show 0 * 1024 + d.val = d.val; omega
/-- What point `t` leaves in the buffer is its block of the array. -/
theorem out15_eq : out15 m c t = fun y => result15 m c ((win0_15.rect t).emb y) := by
  unfold out15
  rw [show View.canon (runAt m c (live t) (live_lt t)).2.2.2.2.1 = Block.gBlk (iblk m c 0 (live t)) (iblk m c 1 (live t)) (iblk m c 2 (live t)) (iblk m c 3 (live t)) 4608 (by omega)
    from Block.canon_of_agrees (Block.agrees15 ..) (cover15 m c (live t) (live_lt t))]
  funext y
  obtain ⟨r, d, rfl⟩ : ∃ (r : Fin 512) (d : Fin 1024), y = ix2 r d := ⟨y 0, y 1, by pointwise⟩
  rw [emb15]
  have hL : (live t).val = min t.val 31 := rfl
  have hb : (⟨(live t).val / 8, by omega⟩ : Fin 4) = ⟨(512 * min t.val 31 + r.val) / 4096, by omega⟩ := Fin.ext (by simp only [hL]; omega)
  have hn : (⟨512 * (live t).val + r.val, by omega⟩ : Fin 16384) = ⟨512 * min t.val 31 + r.val, by omega⟩ := rfl
  unfold Block.gBlk result15 Cert.ProjRefIdeal.Read.gate
  pointwise [pRow_eq m c (live t) (live_lt t), row, hb, hn]
/-- So what it writes back is. -/
theorem flushed15 : (dats m 0 c).flushed 15 t = (win0_15.blk t).view.read (Elt Ideal) (result15 m c) := by
  show (dats m 0 c).after 15 t = _
  rw [after15, out15_eq]
  rfl
/-- The blocks written back cover the array. -/
theorem covers15 (i : S16384x1024.Idx) : ∃ t : Fin cfg0.N, (cfg0.win 15).flush t = true ∧ i ∈ ((cfg0.win 15).blk t).view.set := by
    have h0 : (i 0).val < 16384 := (i 0).isLt
    have hu : (i 0).val / 512 < 32 := by omega
    refine ⟨writer ((i 0).val / 512), (flush15 _).trans (writer_flush _), ?_⟩
    have hi : (win0_15.rect (writer ((i 0).val / 512))).emb (ix2 ⟨(i 0).val % 512, Nat.mod_lt _ (by omega)⟩ (i 1)) = i := by
      refine (emb15 _ ⟨(i 0).val % 512, Nat.mod_lt _ (by omega)⟩ (i 1)).trans ?_
      funext a
      refine Fin.ext ?_
      match a with
      | ⟨0, _⟩ => show 512 * min (writer _).val 31 + (i 0).val % 512 = (i 0).val; rw [writer_block _ hu]; omega
      | ⟨1, _⟩ => rfl
    exact (congrArg (· ∈ ((cfg0.win 15).blk (writer ((i 0).val / 512))).view.set) hi).mp (View.emb_mem_set (v := ((cfg0.win 15).blk _).view) (ix2 ⟨(i 0).val % 512, Nat.mod_lt _ (by omega)⟩ (i 1)))
/-- The array after the run. -/
theorem final15 : (dats m 0 c).arrAt 15 cfg0.N = result15 m c :=
  (dats m 0 c).arrAt_eq_of_cover 15 (result15 m c) (fun t _ => flushed15 m c t) (covers15)

end Cert.ProjIdeal.Whole

end
-- ==== Proof.ProjClaims.lean ====
/-
  The claims of the projection.
-/
module

public import proofs.«01_k».proof.Defs
public import proofs.«01_k».proof.Proof.ProjWhole
public import Idealize.ShloMosaic.Lib.Quiescent

@[expose] public section

noncomputable section

namespace Cert.Proof

open Idealize.ShloMosaic Idealize.ShloMosaic.TcCoe Idealize.SL.Sem Cert.ProjIdeal.Whole Cert.ProjIdeal.Hand

/-- The kernel's and the reference's five results are the same functions of the same arguments. -/
theorem proj_algebraic : Cert.algebraic_ProjIdeal_ProjRefIdeal := fun m ρ m' ρ' _ hag =>
  ⟨fun c => result10 m c, fun c => result11 m c, fun c => result12 m c, fun c => result14 m c, fun c => result15 m c,
    (θ_run _ _ _).mono (fun _ h c => by
      obtain ⟨hrun, hargs⟩ := h
      exact ⟨(named m hrun.1 c 10 rfl).trans (final10 m c), (named m hrun.1 c 11 rfl).trans (final11 m c),
        (named m hrun.1 c 12 rfl).trans (final12 m c), (named m hrun.1 c 14 rfl).trans (final14 m c),
        (named m hrun.1 c 15 rfl).trans (final15 m c), hargs c⟩) (θ_run_and (run_main_quiescent m ρ) (unchanged m ρ)),
    (θ_run _ _ _).mono (fun _ h c => by
      obtain ⟨e0, e1, e2, e3, e4, rest⟩ := h c
      obtain ⟨h0, h1, h2, h3, -⟩ := hag c
      refine ⟨e0.trans ?_, e1.trans ?_, e2.trans ?_, e3.trans ?_, e4.trans ?_, rest⟩
      · rw [h0, h1, h2, h3]; exact Cert.ProjRefIdeal.Read.q_eq ..
      · rw [h0, h1, h2, h3]; exact Cert.ProjRefIdeal.Read.k_eq ..
      · rw [h0, h1, h2, h3]; exact Cert.ProjRefIdeal.Read.v_eq ..
      · rw [h0, h1, h2, h3]; exact Cert.ProjRefIdeal.Read.sa_eq ..
      · rw [h0, h1, h2, h3]; exact Cert.ProjRefIdeal.Read.sr_eq ..) (Cert.ProjRefIdeal.Value.run (F := Ideal) m' ρ')⟩

/-- The reference's run leaves its arguments as they were. -/
theorem proj_ref_frame : Cert.quiescent_ProjRefIdeal := fun m ρ _ =>
  (θ_run _ _ _).mono (fun r h => ⟨fun c => (h c).2.2.2.2.2, sem_eq_zero_of_no_sems rfl r.2⟩) (Cert.ProjRefIdeal.Value.run (F := Ideal) m ρ)

end Cert.Proof

end
-- ==== Proof.MixBlock.lean ====
/-
  The mixer output's kernel, one point: the block of rows it leaves, as a function of the point's input blocks. The body merges
  the two branches' projections of 512 rows, multiplies by the output weights into a scratch slot, and a sub tile later adds the
  normalised slot under the gate to the input rows.
-/
module

public import proofs.«01_k».proof.Proof.Rows
public import proofs.«01_k».proof.Proof.Pieces
public import proofs.«01_k».proof.Proof.Gen.MixIdeal.Value

@[expose] public section

noncomputable section

namespace Cert.MixIdeal.Block

open Cert.MixIdeal Cert.MixIdeal.Gen Cert.Rows Cert.Pieces Idealize.ShloMosaic Idealize.ShloMosaic.TcCoe Idealize.SL.Sem

variable (x0 : Vec Ideal S1024x1024 .f32) (x1 : Vec Ideal S1x9x1024 .f32) (x2 : Vec Ideal S3x1024 .f32) (x3 : Vec Ideal S1024x512 .bf16)
  (x4 x5 x6 : Vec Ideal S1024x1024 .bf16) (x7 : Vec Ideal S512x1024 .bf16) (x8 x9 : Vec Ideal S1024x1024 .bf16) (x10 : Vec Ideal S1x64x5632 .f32)

/-- Row `r` of the block after the output weights, before its norm. -/
def yRow (r : Fin 1024) : Row 1024 :=
  times (merged (fun d => x3 (ix2 r d)) (fun d => x4 (ix2 r d)) (fun d => x5 (ix2 r d)) (fun d => x6 (ix2 r d))
    (fun i j => x7 (ix2 i j)) (fun i j => x8 (ix2 i j))) fun i j => x9 (ix2 i j)

/-- The scratch array: slot `s` holds the rows `512 s …`. -/
def yBuf : Vec Ideal S2x512x1024 .f32 := fun i => yRow x3 x4 x5 x6 x7 x8 x9
  ⟨512 * (i 0).val + (i 1).val, by have h0 : (i 0).val < 2 := (i 0).isLt; have h1 : (i 1).val < 512 := (i 1).isLt; omega⟩ (i 2)

/-- One row of the output from the point's blocks. -/
def outRow (r : Fin 1024) : Row 1024 :=
  mixOut (fun d => x0 (ix2 r d)) (fun d => x3 (ix2 r d)) (fun d => x4 (ix2 r d)) (fun d => x5 (ix2 r d)) (fun d => x6 (ix2 r d))
    (fun d => x2 (ix2 1 d)) (fun d => x1 (ix3 0 5 d)) (fun i j => x7 (ix2 i j)) (fun i j => x8 (ix2 i j)) (fun i j => x9 (ix2 i j))

variable (c : Dev nD) (i : grid0.Coords)
  (arg1 : Memref sig .tc .vmem S1024x1024 .f32) (harg1 : arg1.IsWhole)
  (arg2 : Memref sig .tc .vmem S1x9x1024 .f32) (harg2 : arg2.IsWhole)
  (arg3 : Memref sig .tc .vmem S3x1024 .f32) (harg3 : arg3.IsWhole)
  (arg4 : Memref sig .tc .vmem S1024x512 .bf16) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S1024x1024 .bf16) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1x64x5632 .f32) (harg11 : arg11.IsWhole)
  (arg12 : Memref sig .tc .vmem S1024x1024 .f32) (harg12 : arg12.IsWhole)
  (arg13 : Memref sig .tc .vmem S64x5632 .bf16) (harg13 : arg13.IsWhole)
  (arg14 : Memref sig .tc .vmem S2x512x1024 .f32) (harg14 : arg14.IsWhole)

/-- The two stores of the scratch. -/
theorem yPieces : Agrees (yBuf x3 x4 x5 x6 x7 x8 x9) (kernelRun0_A.sl.HS0_2 c arg4 harg4 arg5 harg5 arg6 harg6 arg7 harg7 arg8 harg8 arg9 harg9 arg10 harg10 x3 x4 x5 x6 x7 x8 x9) := by
  unfold kernelRun0_A.sl.HS0_2
  refine agrees_cons (fun x => ?_) (agrees_cons (fun x => ?_) (agrees_nil _))
  all_goals
    simp only [kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8,
      kernelRun0_A.sl.cst_49, View.readAt_eq_ld, Memref.IsWhole.read_unread]
    unfold_payloads
    pointwise [yBuf, yRow, merged, sigma, times, zero_sub]

/-- Loading slot 0 gives the first sub tile's rows, -/
theorem v75_eq : kernelRun0_A.sl.v75 c arg4 harg4 arg5 harg5 arg6 harg6 arg7 harg7 arg8 harg8 arg9 harg9 arg10 harg10 arg14 x3 x4 x5 x6 x7 x8 x9
    = fun j => yRow x3 x4 x5 x6 x7 x8 x9 ⟨(j 1).val, by have h : (j 1).val < 512 := (j 1).isLt; omega⟩ (j 2) := by
  unfold kernelRun0_A.sl.v75
  rw [readCov_of_agrees _ (yPieces ..)]
  · funext j
    pointwise [yBuf]
  · intro j
    unfold kernelRun0_A.sl.HS0_2
    exact cover_tail (cover_head (LoadRect.idx_mem _ j))

/-- loading slot 1 the second's. -/
theorem v95_eq : kernelRun0_A.sl.v95 c arg4 harg4 arg5 harg5 arg6 harg6 arg7 harg7 arg8 harg8 arg9 harg9 arg10 harg10 arg14 x3 x4 x5 x6 x7 x8 x9
    = fun j => yRow x3 x4 x5 x6 x7 x8 x9 ⟨512 + (j 1).val, by have h : (j 1).val < 512 := (j 1).isLt; omega⟩ (j 2) := by
  unfold kernelRun0_A.sl.v95
  rw [readCov_of_agrees _ (yPieces ..)]
  · funext j
    pointwise [yBuf]
  · intro j
    unfold kernelRun0_A.sl.HS0_2
    exact cover_head (LoadRect.idx_mem _ j)

/-- THE BODY'S MAIN OUTPUT BLOCK, row by row. -/
theorem out_eq : out0_A_11 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 x5 x6 x7 x8 x9 x10 = fun j => outRow x0 x1 x2 x3 x4 x5 x6 x7 x8 x9 (j 0) (j 1) := by
  unfold out0_A_11
  refine read_writes_of_agrees _ _ ?_ (fun y => cover0_A_11 ..)
  unfold kernelRun0_A
  refine agrees_cons (fun x => ?_) (agrees_cons (fun x => ?_) (agrees_nil _))
  all_goals
    simp only [kernelRun0_A.sl.r, kernelRun0_A.sl.r_9, kernelRun0_A.sl.r_10, View.readAt_eq_ld, Memref.IsWhole.read_unread, v75_eq, v95_eq]
    unfold_payloads
    pointwise [outRow, mixOut, fullResidual, normed, invRms, yRow]

/-- The weight block this body rounds for a later call. -/
theorem cast12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 x5 x6 x7 x8 x9 x10 = fun j => x10 (ix3 0 (j 0) (j 1)) := by
  unfold out0_A_12
  refine read_writes_of_agrees _ _ ?_ (fun y => cover0_A_12 ..)
  unfold kernelRun0_A
  refine agrees_cons (fun x => ?_) (agrees_nil _)
  simp only [View.readAt_eq_ld, Memref.IsWhole.read_unread]
  unfold_payloads
  pointwise

end Cert.MixIdeal.Block

end
-- ==== Proof.MixRef.lean ====
/-
  The mixer output's reference: its first result, row by row, is the row function of the specification.
-/
module

public import proofs.«01_k».proof.Proof.RefTerms
public import proofs.«01_k».proof.Proof.Gen.MixRefIdeal.Run

@[expose] public section

noncomputable section

namespace Cert.MixRefIdeal.Read

open Cert.MixRefIdeal Cert.MixRefIdeal.Gen Cert.Rows Cert.RefTerms Idealize.ShloMosaic Idealize.ShloMosaic.TcCoe Idealize.SL.Sem

/-- What the mixer's output computes from its ten arguments: token `n` of the flat arrays belongs to batch `n / 4096`. -/
def spec (x : FVec Ideal S16384x1024 .f32) (md : FVec Ideal S4x3x3x1024 .f32) (post : FVec Ideal S3x1024 .f32)
    (att : FVec Ideal S4x4096x512 .bf16) (rec sa sr : FVec Ideal S16384x1024 .bf16) (wAtt : FVec Ideal S512x1024 .bf16)
    (wRec wOut : FVec Ideal S1024x1024 .bf16) (n : Fin 16384) : Row 1024 :=
  mixOut (fun d => x (ix2 n d)) (fun d => att (ix3 ⟨n.val / 4096, by omega⟩ ⟨n.val % 4096, by omega⟩ d)) (fun d => rec (ix2 n d))
    (fun d => sa (ix2 n d)) (fun d => sr (ix2 n d)) (fun d => post (ix2 1 d)) (fun d => md (ix4 ⟨n.val / 4096, by omega⟩ 1 2 d))
    (fun i j => wAtt (ix2 i j)) (fun i j => wRec (ix2 i j)) (fun i j => wOut (ix2 i j))

/-- A flat array of rounded rows, as (4, 4096, 1024). -/
def tokT (z : FVec Ideal S16384x1024 .bf16) : Seq :=
  shapeCast S4x4096x1024 (extf (F := Ideal) .f32 z bitsLt_bf16_f32) shapeCasts_S16384x1024_S4x4096x1024

/-- The logistic function of an array. -/
def gateT (s : Seq) : Seq :=
  Host.divf (F := Ideal) (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf s)))

/-- The attention branch's projection. -/
def attT (a : FVec Ideal S4x4096x512 .bf16) (w : FVec Ideal S512x1024 .bf16) : Seq :=
  Host.dotGeneral (F := Ideal) dot_S4x4096x512_S512x1024_S4x4096x1024_2_0_01_1_n_n none (extf (F := Ideal) .f32 a bitsLt_bf16_f32)
    (extf (F := Ideal) .f32 w bitsLt_bf16_f32)

/-- A projection by a square weight. -/
def squareT (z : Seq) (w : FVec Ideal S1024x1024 .bf16) : Seq :=
  Host.dotGeneral (F := Ideal) dot_S4x4096x1024_S1024x1024_S4x4096x1024_2_0_01_1_n_n none z (extf (F := Ideal) .f32 w bitsLt_bf16_f32)

/-- The two branches merged under their gates. -/
def mergedT (a r sa sr : Seq) : Seq := addf (mulf (gateT sa) a) (mulf (gateT sr) r)

/-- The residual with factor one. -/
def fullResT (x y : Seq) (gate : FVec Ideal S4x1x1x1024 .f32) (g : FVec Ideal S1x1024 .f32) : Seq :=
  addf x (mulf (spreadT (mulf (constT 0x3F800000#32) (modT gate))) (mulf (mulf y (rmsT y)) (gainT g)))

variable (b : Fin 4) (r : Fin 4096)

/-- A token's rounded row. -/
theorem tokT_at (z : FVec Ideal S16384x1024 .bf16) (d : Fin 1024) : tokT z (ix3 b r d) = z (ix2 ⟨b.val * 4096 + r.val, by omega⟩ d) := by
  unfold tokT; pointwise

/-- The logistic function at an index. -/
theorem gateT_at (s : Seq) (d : Fin 1024) : gateT s (ix3 b r d) = sigma (s (ix3 b r d)) := by
  unfold gateT; pointwise [sigma]

/-- The attention branch's projection of a token. -/
theorem attT_at (a : FVec Ideal S4x4096x512 .bf16) (w : FVec Ideal S512x1024 .bf16) (d : Fin 1024) :
    attT a w (ix3 b r d) = times (fun k => a (ix3 b r k)) (fun i j => w (ix2 i j)) d := by
  unfold attT; pointwise [times]

/-- A square projection of a token. -/
theorem squareT_at (z : Seq) (w : FVec Ideal S1024x1024 .bf16) (d : Fin 1024) :
    squareT z w (ix3 b r d) = times (at3 z b r) (fun i j => w (ix2 i j)) d := by
  unfold squareT; pointwise [times, at3]

/-- The merged branches of a token. -/
theorem mergedT_at (a z sa sr : Seq) (d : Fin 1024) : mergedT a z sa sr (ix3 b r d)
    = sigma (sa (ix3 b r d)) * a (ix3 b r d) + sigma (sr (ix3 b r d)) * z (ix3 b r d) := by
  unfold mergedT; pointwise [gateT_at]

/-- The residual of a token. -/
theorem fullResT_at (x y : Seq) (gate : FVec Ideal S4x1x1x1024 .f32) (g : FVec Ideal S1x1024 .f32) :
    at3 (fullResT x y gate g) b r = fullResidual (at3 x b r) (at3 y b r) (fun d => g (ix2 0 d)) (fun d => gate (ix4 b 0 0 d)) := by
  funext d; rw [at3_apply]; unfold fullResT
  pointwise [rmsT_at, gainT_at, spreadT_at, modT_at, constT_at, fullResidual, normed, at3_apply]

/-- The whole of the mixer's output. -/
def mixT (x : Seq) (gate : FVec Ideal S4x1x1x1024 .f32) (post : FVec Ideal S1x1024 .f32) (att : FVec Ideal S4x4096x512 .bf16)
    (rec sa sr : FVec Ideal S16384x1024 .bf16) (wAtt : FVec Ideal S512x1024 .bf16) (wRec wOut : FVec Ideal S1024x1024 .bf16) : Seq :=
  fullResT x (squareT (mergedT (attT att wAtt) (squareT (tokT rec) wRec) (tokT sa) (tokT sr)) wOut) gate post

/-- Its row is the row function of the specification. -/
theorem mixT_at (x : Seq) (gate : FVec Ideal S4x1x1x1024 .f32) (post : FVec Ideal S1x1024 .f32) (att : FVec Ideal S4x4096x512 .bf16)
    (rec sa sr : FVec Ideal S16384x1024 .bf16) (wAtt : FVec Ideal S512x1024 .bf16) (wRec wOut : FVec Ideal S1024x1024 .bf16) :
    at3 (mixT x gate post att rec sa sr wAtt wRec wOut) b r = mixOut (at3 x b r) (fun d => att (ix3 b r d))
      (fun d => rec (ix2 ⟨b.val * 4096 + r.val, by omega⟩ d)) (fun d => sa (ix2 ⟨b.val * 4096 + r.val, by omega⟩ d))
      (fun d => sr (ix2 ⟨b.val * 4096 + r.val, by omega⟩ d)) (fun d => post (ix2 0 d)) (fun d => gate (ix4 b 0 0 d))
      (fun i j => wAtt (ix2 i j)) (fun i j => wRec (ix2 i j)) (fun i j => wOut (ix2 i j)) := by
  unfold mixT mixOut
  rw [fullResT_at]
  congr 1
  funext d
  rw [at3_apply, squareT_at]
  congr 1
  funext d
  rw [at3_apply, mergedT_at, attT_at, squareT_at, tokT_at, tokT_at]
  unfold merged
  congr 3
  funext d
  rw [at3_apply, tokT_at]

/-- The reference's result holds it. -/
theorem res_eq (m : (ℓ : Loc nD τ sig) → Buf (Elt Ideal) ℓ) (c : Dev nD) :
    Value.res_main_v52 m c = fun i : S16384x1024.Idx =>
      spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (i 0) (i 1) := by
  have h : Value.res_main_v52 m c = shapeCast S16384x1024
      (mixT (shapeCast S4x4096x1024 (m ((c.tc : Thread nD τ).loc main_arg0) : FVec Ideal S16384x1024 .f32) shapeCasts_S16384x1024_S4x4096x1024)
        (extractStridedSlice S4x1x1x1024 ![0, 1, 2, 0] (m ((c.tc : Thread nD τ).loc main_arg1) : FVec Ideal S4x3x3x1024 .f32) slices_S4x3x3x1024_S4x1x1x1024_0_1_2_0)
        (extractStridedSlice S1x1024 ![1, 0] (m ((c.tc : Thread nD τ).loc main_arg2) : FVec Ideal S3x1024 .f32) slices_S3x1024_S1x1024_1_0)
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)))
      shapeCasts_S4x4096x1024_S16384x1024 := rfl
  rw [h]
  generalize m ((c.tc : Thread nD τ).loc main_arg0) = x
  generalize m ((c.tc : Thread nD τ).loc main_arg1) = md
  generalize m ((c.tc : Thread nD τ).loc main_arg2) = post
  generalize m ((c.tc : Thread nD τ).loc main_arg3) = att
  generalize m ((c.tc : Thread nD τ).loc main_arg4) = rec
  generalize m ((c.tc : Thread nD τ).loc main_arg5) = sa
  generalize m ((c.tc : Thread nD τ).loc main_arg6) = sr
  generalize m ((c.tc : Thread nD τ).loc main_arg7) = wAtt
  generalize m ((c.tc : Thread nD τ).loc main_arg8) = wRec
  generalize m ((c.tc : Thread nD τ).loc main_arg9) = wOut
  funext i
  obtain ⟨n, d, rfl⟩ : ∃ (n : Fin 16384) (d : Fin 1024), i = ix2 n d := ⟨i 0, i 1, by pointwise⟩
  rw [flatten_at, mixT_at, unflatten_at]
  pointwise [spec, token]

end Cert.MixRefIdeal.Read

end
-- ==== Proof.Mix.lean ====
/-
  The mixer output's kernel: the arrays it leaves. The main one holds, row by row, the row function of the specification; the
  other a weight the last sublayer reads, each point rounding its share of the rows.
-/
module

public import proofs.«01_k».proof.Proof.MixBlock
public import proofs.«01_k».proof.Proof.MixRef
public import proofs.«01_k».proof.Proof.Tiles

@[expose] public section

noncomputable section

namespace Cert.MixIdeal.Whole

open Cert.MixIdeal Cert.MixIdeal.Gen Cert.Rows Cert.Tiles Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The host's reshape before the call: the modulation array as nine rows of 1024 per batch. -/
theorem V_mod : V m c main_v0 = shapeCast S4x9x1024 (m ((c : Thread nD τ).loc main_arg1) : FVec Ideal S4x3x3x1024 .f32) shapeCasts_S4x3x3x1024_S4x9x1024 := by
  simp only [V, hostOps0]
  after_results_simp
  rfl

/-- Row 5 of the nine is the gate of the middle sublayer. -/
theorem gate_at (x : FVec Ideal S4x3x3x1024 .f32) (b : Fin 4) (d : Fin 1024) :
    shapeCast S4x9x1024 x shapeCasts_S4x3x3x1024_S4x9x1024 (ix3 b 5 d) = x (ix4 b 1 2 d) := by
  pointwise

/-- The host's other reshape: the attention rows of all batches, one below the other. -/
theorem V_att : V m c main_v1 = shapeCast S16384x512 (m ((c : Thread nD τ).loc main_arg3) : FVec Ideal S4x4096x512 .bf16) shapeCasts_S4x4096x512_S16384x512 := by
  simp only [V, hostOps0]
  after_results_simp
  rfl

/-- Row `n` of the flat attention array is token `n % 4096` of batch `n / 4096`. -/
theorem att_at (x : FVec Ideal S4x4096x512 .bf16) (n : Fin 16384) (d : Fin 512) :
    shapeCast S16384x512 x shapeCasts_S4x4096x512_S16384x512 (ix2 n d) = x (ix3 ⟨n.val / 4096, by omega⟩ ⟨n.val % 4096, by omega⟩ d) := by
  pointwise

/-- The grid has sixteen points. -/
theorem hN : t.val < 16 := N_0 ▸ t.isLt

/-- The input rows move down one block per point: -/
theorem index0 : ∀ t : Fin grid0.N, win0_0.index t = ![t.val, 0] := by decide +kernel
/-- the block at an index. -/
theorem blk0 (r d : Fin 1024) : iblk m c 0 t (ix2 r d) = (m ((c : Thread nD τ).loc main_arg0) : FVec Ideal S16384x1024 .f32)
    (ix2 ⟨1024 * t.val + r.val, by have := hN t; omega⟩ d) := by
  show V m c main_arg0 ((win0_0.rect t).emb (ix2 r d)) = _
  rw [V_main_arg0]
  congr 1
  funext a
  refine Fin.ext ((win0_0.rect_emb_val t _ a).trans ?_)
  rw [index0]
  match a with
  | ⟨0, _⟩ => show t.val * 1024 + r.val = 1024 * t.val + r.val; omega
  | ⟨1, _⟩ => show 0 * 1024 + d.val = d.val; omega

/-- The recurrent rows move down one block per point: -/
theorem index4 : ∀ t : Fin grid0.N, win0_4.index t = ![t.val, 0] := by decide +kernel
/-- the block at an index. -/
theorem blk4 (r d : Fin 1024) : iblk m c 4 t (ix2 r d) = (m ((c : Thread nD τ).loc main_arg4) : FVec Ideal S16384x1024 .bf16)
    (ix2 ⟨1024 * t.val + r.val, by have := hN t; omega⟩ d) := by
  show V m c main_arg4 ((win0_4.rect t).emb (ix2 r d)) = _
  rw [V_main_arg4]
  congr 1
  funext a
  refine Fin.ext ((win0_4.rect_emb_val t _ a).trans ?_)
  rw [index4]
  match a with
  | ⟨0, _⟩ => show t.val * 1024 + r.val = 1024 * t.val + r.val; omega
  | ⟨1, _⟩ => show 0 * 1024 + d.val = d.val; omega

/-- The attention gate's rows move down one block per point: -/
theorem index5 : ∀ t : Fin grid0.N, win0_5.index t = ![t.val, 0] := by decide +kernel
/-- the block at an index. -/
theorem blk5 (r d : Fin 1024) : iblk m c 5 t (ix2 r d) = (m ((c : Thread nD τ).loc main_arg5) : FVec Ideal S16384x1024 .bf16)
    (ix2 ⟨1024 * t.val + r.val, by have := hN t; omega⟩ d) := by
  show V m c main_arg5 ((win0_5.rect t).emb (ix2 r d)) = _
  rw [V_main_arg5]
  congr 1
  funext a
  refine Fin.ext ((win0_5.rect_emb_val t _ a).trans ?_)
  rw [index5]
  match a with
  | ⟨0, _⟩ => show t.val * 1024 + r.val = 1024 * t.val + r.val; omega
  | ⟨1, _⟩ => show 0 * 1024 + d.val = d.val; omega

/-- The recurrent gate's rows move down one block per point: -/
theorem index6 : ∀ t : Fin grid0.N, win0_6.index t = ![t.val, 0] := by decide +kernel
/-- the block at an index. -/
theorem blk6 (r d : Fin 1024) : iblk m c 6 t (ix2 r d) = (m ((c : Thread nD τ).loc main_arg6) : FVec Ideal S16384x1024 .bf16)
    (ix2 ⟨1024 * t.val + r.val, by have := hN t; omega⟩ d) := by
  show V m c main_arg6 ((win0_6.rect t).emb (ix2 r d)) = _
  rw [V_main_arg6]
  congr 1
  funext a
  refine Fin.ext ((win0_6.rect_emb_val t _ a).trans ?_)
  rw [index6]
  match a with
  | ⟨0, _⟩ => show t.val * 1024 + r.val = 1024 * t.val + r.val; omega
  | ⟨1, _⟩ => show 0 * 1024 + d.val = d.val; omega

/-- The modulation rows stay on a batch for four points: -/
theorem index1 : ∀ t : Fin grid0.N, win0_1.index t = ![t.val / 4, 0, 0] := by decide +kernel
/-- the gate at an index. -/
theorem blk1 (d : Fin 1024) : iblk m c 1 t (ix3 0 5 d) = (m ((c : Thread nD τ).loc main_arg1) : FVec Ideal S4x3x3x1024 .f32)
    (ix4 ⟨t.val / 4, by have := hN t; omega⟩ 1 2 d) := by
  refine Eq.trans ?_ ((congrFun (V_mod m c) _).trans (gate_at _ ⟨t.val / 4, by have := hN t; omega⟩ d))
  show V m c main_v0 ((win0_1.rect t).emb (ix3 0 5 d)) = _
  congr 1
  funext a
  refine Fin.ext ((win0_1.rect_emb_val t _ a).trans ?_)
  rw [index1]
  match a with
  | ⟨0, _⟩ => show t.val / 4 * 1 + 0 = t.val / 4; omega
  | ⟨1, _⟩ => rfl
  | ⟨2, _⟩ => show 0 * 1024 + d.val = d.val; omega

/-- The attention rows move down one block per point: -/
theorem index3 : ∀ t : Fin grid0.N, win0_3.index t = ![t.val, 0] := by decide +kernel
/-- the block at an index. -/
theorem blk3 (r : Fin 1024) (d : Fin 512) : iblk m c 3 t (ix2 r d) = (m ((c : Thread nD τ).loc main_arg3) : FVec Ideal S4x4096x512 .bf16)
    (ix3 ⟨(1024 * t.val + r.val) / 4096, by have := hN t; omega⟩ ⟨(1024 * t.val + r.val) % 4096, by omega⟩ d) := by
  refine Eq.trans ?_ ((congrFun (V_att m c) _).trans (att_at _ ⟨1024 * t.val + r.val, by have := hN t; omega⟩ d))
  show V m c main_v1 ((win0_3.rect t).emb (ix2 r d)) = _
  congr 1
  funext a
  refine Fin.ext ((win0_3.rect_emb_val t _ a).trans ?_)
  rw [index3]
  match a with
  | ⟨0, _⟩ => show t.val * 1024 + r.val = 1024 * t.val + r.val; omega
  | ⟨1, _⟩ => show 0 * 512 + d.val = d.val; omega

/-- The output gains are staged whole at every point. -/
theorem index2 : ∀ t : Fin grid0.N, win0_2.index t = ![0, 0] := by decide +kernel
/-- So the block is the array. -/
theorem blk2 : iblk m c 2 t = (m ((c : Thread nD τ).loc main_arg2) : FVec Ideal S3x1024 .f32) := by
  funext i
  show V m c main_arg2 ((win0_2.rect t).emb i) = _
  rw [V_main_arg2]
  congr 1
  funext a
  exact Fin.ext (win0_2.rect_emb_val_of_index_zero t a (by rw [index2]; match a with | ⟨0, _⟩ => rfl | ⟨1, _⟩ => rfl) i)

/-- The attention projection's weights are staged whole at every point. -/
theorem index7 : ∀ t : Fin grid0.N, win0_7.index t = ![0, 0] := by decide +kernel
/-- So the block is the array. -/
theorem blk7 : iblk m c 7 t = (m ((c : Thread nD τ).loc main_arg7) : FVec Ideal S512x1024 .bf16) := by
  funext i
  show V m c main_arg7 ((win0_7.rect t).emb i) = _
  rw [V_main_arg7]
  congr 1
  funext a
  exact Fin.ext (win0_7.rect_emb_val_of_index_zero t a (by rw [index7]; match a with | ⟨0, _⟩ => rfl | ⟨1, _⟩ => rfl) i)

/-- The recurrent projection's weights are staged whole at every point. -/
theorem index8 : ∀ t : Fin grid0.N, win0_8.index t = ![0, 0] := by decide +kernel
/-- So the block is the array. -/
theorem blk8 : iblk m c 8 t = (m ((c : Thread nD τ).loc main_arg8) : FVec Ideal S1024x1024 .bf16) := by
  funext i
  show V m c main_arg8 ((win0_8.rect t).emb i) = _
  rw [V_main_arg8]
  congr 1
  funext a
  exact Fin.ext (win0_8.rect_emb_val_of_index_zero t a (by rw [index8]; match a with | ⟨0, _⟩ => rfl | ⟨1, _⟩ => rfl) i)

/-- The output weights are staged whole at every point. -/
theorem index9 : ∀ t : Fin grid0.N, win0_9.index t = ![0, 0] := by decide +kernel
/-- So the block is the array. -/
theorem blk9 : iblk m c 9 t = (m ((c : Thread nD τ).loc main_arg9) : FVec Ideal S1024x1024 .bf16) := by
  funext i
  show V m c main_arg9 ((win0_9.rect t).emb i) = _
  rw [V_main_arg9]
  congr 1
  funext a
  exact Fin.ext (win0_9.rect_emb_val_of_index_zero t a (by rw [index9]; match a with | ⟨0, _⟩ => rfl | ⟨1, _⟩ => rfl) i)

/-- The array the kernel is to leave: the specification's rows of the arguments. -/
def result : FVec Ideal S16384x1024 .f32 := fun i =>
  Cert.MixRefIdeal.Read.spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (i 0) (i 1)

/-- The output moves down one block of rows per point, -/
theorem index11 : ∀ t : Fin grid0.N, win0_11.index t = ![t.val, 0] := by decide +kernel
/-- which is where row `r` of point `t`'s block lies. -/
theorem emb11 (r d : Fin 1024) : (win0_11.rect t).emb (ix2 r d) = ix2 ⟨1024 * t.val + r.val, by have := hN t; omega⟩ d := by
  funext a
  refine Fin.ext ((win0_11.rect_emb_val t _ a).trans ?_)
  rw [index11]
  match a with
  | ⟨0, _⟩ => show t.val * 1024 + r.val = 1024 * t.val + r.val; omega
  | ⟨1, _⟩ => show 0 * 1024 + d.val = d.val; omega

/-- What point `t` writes back is its block of `result`. -/
theorem flushed_eq : (dats m 0 c).flushed 11 t = (win0_11.blk t).view.read (Elt Ideal) (result m c) := by
  rw [Value.flushed11_A, Block.out_eq]
  funext y
  obtain ⟨r, d, rfl⟩ : ∃ (r d : Fin 1024), y = ix2 r d := ⟨y 0, y 1, by pointwise⟩
  show Block.outRow _ _ _ _ _ _ _ _ _ _ r d = result m c ((win0_11.rect t).emb (ix2 r d))
  rw [emb11]
  unfold Block.outRow result Cert.MixRefIdeal.Read.spec
  rw [blk2, blk7, blk8, blk9]
  simp only [blk0, blk1, blk3, blk4, blk5, blk6]
  have hb : (⟨(1024 * t.val + r.val) / 4096, by have := hN t; omega⟩ : Fin 4) = ⟨t.val / 4, by have := hN t; omega⟩ :=
    Fin.ext (by simp only; omega)
  pointwise [hb]

/-- The array after the run. -/
theorem final : (dats m 0 c).arrAt 11 cfg0.N = result m c :=
  (dats m 0 c).arrAt_eq_of_cover 11 (result m c) (fun t _ => flushed_eq m c t)
    (fun i => (rows_cover (B := 1024) (by rw [show cfg0.grid.N = 16 from N_0])
      (fun t => ((cfg0.win 11).blk t).view.set) (fun t r d _ => emb11 t r d ▸ View.emb_mem_set (v := ((cfg0.win 11).blk t).view) (ix2 r d)) i).imp
      fun t h => ⟨flush0_11 t, h⟩)

/-! ## The weight rounded for a later call: each point's output is its share of the rows. -/

/-- Where the rows point `t` rounds of the weight come from, -/
theorem index10 : ∀ t : Fin grid0.N, win0_10.index t = ![0, t.val, 0] := by decide +kernel
/-- and where they go. -/
theorem index12 : ∀ t : Fin grid0.N, win0_12.index t = ![t.val, 0] := by decide +kernel

/-- Point `t`'s rows of the weight. -/
theorem blk10 (r : Fin 64) (d : Fin 5632) : iblk m c 10 t (ix3 0 r d) = (m ((c : Thread nD τ).loc main_arg10) : FVec Ideal S1x1024x5632 .f32)
    (ix3 0 ⟨64 * t.val + r.val, by have := hN t; omega⟩ d) := by
  show V m c main_arg10 ((win0_10.rect t).emb (ix3 0 r d)) = _
  rw [V_main_arg10]
  congr 1
  funext a
  refine Fin.ext ((win0_10.rect_emb_val t _ a).trans ?_)
  rw [index10]
  match a with
  | ⟨0, _⟩ => rfl
  | ⟨1, _⟩ => show t.val * 64 + r.val = 64 * t.val + r.val; omega
  | ⟨2, _⟩ => show 0 * 5632 + d.val = d.val; omega

/-- Where row `r` of point `t`'s rounded rows lies in the array. -/
theorem emb12 (r : Fin 64) (d : Fin 5632) : (win0_12.rect t).emb (ix2 r d) = ix2 ⟨64 * t.val + r.val, by have := hN t; omega⟩ d := by
  funext a
  refine Fin.ext ((win0_12.rect_emb_val t _ a).trans ?_)
  rw [index12]
  match a with
  | ⟨0, _⟩ => show t.val * 64 + r.val = 64 * t.val + r.val; omega
  | ⟨1, _⟩ => show 0 * 5632 + d.val = d.val; omega

/-- The weight without its leading axis. -/
def weight12 : FVec Ideal S1024x5632 .bf16 := fun i => (m ((c.tc : Thread nD τ).loc main_arg10) : FVec Ideal S1x1024x5632 .f32) (ix3 0 (i 0) (i 1))

/-- The array after the run holds it. -/
theorem final12 : (dats m 0 c).arrAt 12 cfg0.N = weight12 m c :=
  (dats m 0 c).arrAt_eq_of_cover 12 (weight12 m c)
    (fun t _ => by
      rw [Value.flushed12_A, Block.cast12_eq]
      funext y
      obtain ⟨r, d, rfl⟩ : ∃ (r : Fin 64) (d : Fin 5632), y = ix2 r d := ⟨y 0, y 1, by pointwise⟩
      show iblk m c 10 t (ix3 0 r d) = weight12 m c ((win0_12.rect t).emb (ix2 r d))
      rw [emb12, blk10]
      rfl)
    (fun i => (rows_cover (B := 64) (by rw [show cfg0.grid.N = 16 from N_0])
      (fun t => ((cfg0.win 12).blk t).view.set) (fun t r d _ => emb12 t r d ▸ View.emb_mem_set (v := ((cfg0.win 12).blk t).view) (ix2 r d)) i).imp
      fun t h => ⟨flush0_12 t, h⟩)

end Cert.MixIdeal.Whole

end
-- ==== Proof.MixClaims.lean ====
/-
  The claims of the mixer's output.
-/
module

public import proofs.«01_k».proof.Defs
public import proofs.«01_k».proof.Proof.Mix
public import proofs.«01_k».proof.Proof.Gen.Mix.Frame
public import Idealize.ShloMosaic.Lib.Quiescent

@[expose] public section

noncomputable section

namespace Cert.Proof

open Idealize.ShloMosaic Idealize.ShloMosaic.TcCoe Idealize.SL.Sem Cert.MixIdeal.Whole Cert.Tiles

/-- The kernel's and the reference's two results are the same functions of the same arguments. -/
theorem mix_algebraic : Cert.algebraic_MixIdeal_MixRefIdeal := fun m ρ m' ρ' _ hag =>
  ⟨fun c => result m c, fun c => weight12 m c,
    (θ_run _ _ _).mono (fun _ h c => ⟨(h c).1.trans (final m c), (h c).2.1.trans (final12 m c), (h c).2.2⟩) (Cert.MixIdeal.Value.run_blocks (F := Ideal) m ρ),
    (θ_run _ _ _).mono (fun _ h c => by
      obtain ⟨e0, e1, rest⟩ := h c
      obtain ⟨h0, h1, h2, h3, h4, h5, h6, h7, h8, h9, h10⟩ := hag c
      refine ⟨e0.trans ?_, e1.trans ?_, rest⟩
      · rw [Cert.MixRefIdeal.Read.res_eq, h0, h1, h2, h3, h4, h5, h6, h7, h8, h9]; rfl
      · rw [h10]; exact weight_at _ _ _) (Cert.MixRefIdeal.Value.run (F := Ideal) m' ρ')⟩

/-- The reference's run leaves its arguments as they were. -/
theorem mix_ref_frame : Cert.quiescent_MixRefIdeal := fun m ρ _ =>
  (θ_run _ _ _).mono (fun r h => ⟨fun c => (h c).2.2, sem_eq_zero_of_no_sems rfl r.2⟩) (Cert.MixRefIdeal.Value.run (F := Ideal) m ρ)

end Cert.Proof

end
-- ==== Proof.Ffn2Block.lean ====
/-
  ONE GRID POINT of the last sublayer's kernel: what its body leaves in the output block is, row by row, the row function of the
  specification of the point's input blocks. The body works in two sub tiles of 512 rows through three scratch arrays (modulated
  rows, gated rows, branch rows), the gated rows in eleven column tiles of 256. Each scratch is ONE function of its index
  (`hBuf`, `aBuf`, `yBuf`): every store into it writes that function's values, so every later load reads them.
-/
module

public import proofs.«01_k».proof.Proof.Gen.Ffn2Ideal.Value
public import proofs.«01_k».proof.Proof.FfnRows
public import proofs.«01_k».proof.Proof.Pieces

@[expose] public section

noncomputable section

namespace Cert.Ffn2Ideal.Block

open Cert.Ffn2Ideal Cert.Ffn2Ideal.Gen Cert.Rows Cert.FfnRows Cert.Pieces Idealize.ShloMosaic Idealize.ShloMosaic.TcCoe Idealize.SL.Sem

variable (x0 : Vec Ideal S1024x1024 .f32) (x1 : Vec Ideal S1x9x1024 .f32) (x2 x3 : Vec Ideal S3x1024 .f32)
  (x4 : Vec Ideal S1024x5632 .bf16) (x5 : Vec Ideal S2816x1024 .bf16)

variable (c : Dev nD)
  (arg1 : Memref sig .tc .vmem S1024x1024 .f32) (harg1 : arg1.IsWhole)
  (arg2 : Memref sig .tc .vmem S1x9x1024 .f32) (harg2 : arg2.IsWhole)
  (arg3 : Memref sig .tc .vmem S3x1024 .f32) (harg3 : arg3.IsWhole)
  (arg4 : Memref sig .tc .vmem S3x1024 .f32) (harg4 : arg4.IsWhole)
  (arg5 : Memref sig .tc .vmem S1024x5632 .bf16) (harg5 : arg5.IsWhole)
  (arg6 : Memref sig .tc .vmem S2816x1024 .bf16) (harg6 : arg6.IsWhole)
  (arg8 : Memref sig .tc .vmem S2x512x1024 .bf16) (arg9 : Memref sig .tc .vmem S2x512x2816 .bf16)
  (arg10 : Memref sig .tc .vmem S2x512x1024 .f32)

/-- After its first store the scratch of modulated rows holds `hBuf` where written. -/
theorem hPieces0 : Agrees (hBuf 2 6 7 x0 x1 x2) (kernelRun0_A.sl.HS0_1 c arg1 harg1 arg2 harg2 arg3 harg3 x0 x1 x2) := by
  unfold kernelRun0_A.sl.HS0_1
  refine agrees_cons (fun x => ?_) (agrees_nil _)
  simp only [View.readAt_eq_ld, Memref.IsWhole.read_unread]
  unfold_payloads
  pointwise [hBuf, hRow, modulated, normed, invRms, xRow, mul_assoc]

/-- … and after its second. -/
theorem hPieces1 : Agrees (hBuf 2 6 7 x0 x1 x2) (kernelRun0_A.sl.HS0_2 c arg1 harg1 arg2 harg2 arg3 harg3 x0 x1 x2) := by
  unfold kernelRun0_A.sl.HS0_2
  refine agrees_cons (fun x => ?_) (hPieces0 ..)
  simp only [View.readAt_eq_ld, Memref.IsWhole.read_unread, kernelRun0_A.sl.r, kernelRun0_A.sl.r_1]
  unfold_payloads
  pointwise [hBuf, hRow, modulated, normed, invRms, xRow, mul_assoc]

/-- Loading slot 0 of the modulated rows, before the second store … -/
theorem v29_eq : kernelRun0_A.sl.v29 c arg1 harg1 arg2 harg2 arg3 harg3 arg8 x0 x1 x2 = fun j => hRow 2 6 7 x0 x1 x2 0 (j 1) (j 2) := by
  unfold kernelRun0_A.sl.v29
  rw [readCov_of_agrees _ (hPieces0 ..)]
  · funext j
    pointwise [hBuf]
  · intro j
    unfold kernelRun0_A.sl.HS0_1
    exact cover_head (LoadRect.idx_mem _ j)

/-- … and after it, gives the first sub tile's modulated rows; -/
theorem v_eq : kernelRun0_A.sl.v c arg1 harg1 arg2 harg2 arg3 harg3 arg8 x0 x1 x2 = fun j => hRow 2 6 7 x0 x1 x2 0 (j 1) (j 2) := by
  unfold kernelRun0_A.sl.v
  rw [readCov_of_agrees _ (hPieces1 ..)]
  · funext j
    pointwise [hBuf]
  · intro j
    unfold kernelRun0_A.sl.HS0_2 kernelRun0_A.sl.HS0_1
    exact cover_tail (cover_head (LoadRect.idx_mem _ j))

/-- loading slot 1 gives the second's. -/
theorem v268_eq : kernelRun0_A.sl.v268 c arg1 harg1 arg2 harg2 arg3 harg3 arg8 x0 x1 x2 = fun j => hRow 2 6 7 x0 x1 x2 1 (j 1) (j 2) := by
  unfold kernelRun0_A.sl.v268
  rw [readCov_of_agrees _ (hPieces1 ..)]
  · funext j
    pointwise [hBuf]
  · intro j
    unfold kernelRun0_A.sl.HS0_2
    exact cover_head (LoadRect.idx_mem _ j)

/-- The first sub tile's eleven stores of gated rows. -/
theorem aPieces0 : Agrees (aBuf 2 6 7 x0 x1 x2 x4)
    (kernelRun0_A.sl.HS1_11 c arg1 harg1 arg2 harg2 arg3 harg3 arg5 harg5 arg8 x0 x1 x2 x4) := by
  unfold kernelRun0_A.sl.HS1_11
  repeat' first | refine agrees_nil _ | refine agrees_cons (fun x => ?_) ?_
  all_goals
    simp only [kernelRun0_A.sl.r_3, kernelRun0_A.sl.r_4, kernelRun0_A.sl.r_5, kernelRun0_A.sl.r_6, kernelRun0_A.sl.r_7,
      kernelRun0_A.sl.r_8, kernelRun0_A.sl.r_9, kernelRun0_A.sl.r_10, kernelRun0_A.sl.r_11, kernelRun0_A.sl.r_12,
      kernelRun0_A.sl.r_13, kernelRun0_A.sl.r_14, kernelRun0_A.sl.r_15, kernelRun0_A.sl.cst_19, View.readAt_eq_ld,
      Memref.IsWhole.read_unread, v29_eq, v_eq]
    unfold_payloads
    pointwise [aBuf, aRow, swiglu, silu, times, zero_sub, ← Nat.add_assoc]

/-- All twenty-two stores of gated rows. -/
theorem aPieces1 : Agrees (aBuf 2 6 7 x0 x1 x2 x4)
    (kernelRun0_A.sl.HS1_22 c arg1 harg1 arg2 harg2 arg3 harg3 arg5 harg5 arg8 x0 x1 x2 x4) := by
  unfold kernelRun0_A.sl.HS1_22
  repeat' first | exact aPieces0 .. | refine agrees_cons (fun x => ?_) ?_
  all_goals
    simp only [kernelRun0_A.sl.r_21, kernelRun0_A.sl.r_22, kernelRun0_A.sl.r_23, kernelRun0_A.sl.r_24, kernelRun0_A.sl.r_25,
      kernelRun0_A.sl.r_26, kernelRun0_A.sl.r_27, kernelRun0_A.sl.r_28, kernelRun0_A.sl.r_29, View.readAt_eq_ld,
      Memref.IsWhole.read_unread, v268_eq]
    unfold_payloads
    pointwise [aBuf, aRow, swiglu, silu, times, zero_sub, ← Nat.add_assoc]

/-- The first sub tile's eleven column tiles fill its slot. -/
theorem aCover0 (y : S2x512x2816.Idx) (hy : (y 0 : Nat) = 0) :
    ∃ p ∈ kernelRun0_A.sl.HS1_11 c arg1 harg1 arg2 harg2 arg3 harg3 arg5 harg5 arg8 x0 x1 x2 x4, y ∈ p.1.set := by
  have h1 : (y 1 : Nat) < 512 := (y 1).isLt
  have h2 : (y 2 : Nat) < 2816 := (y 2).isLt
  unfold kernelRun0_A.sl.HS1_11
  simp only [List.exists_mem_cons_iff, mem_unit3]
  pointwise
  omega

/-- The second sub tile's eleven column tiles fill the other slot. -/
theorem aCover1 (y : S2x512x2816.Idx) (hy : (y 0 : Nat) = 1) :
    ∃ p ∈ kernelRun0_A.sl.HS1_22 c arg1 harg1 arg2 harg2 arg3 harg3 arg5 harg5 arg8 x0 x1 x2 x4, y ∈ p.1.set := by
  have h1 : (y 1 : Nat) < 512 := (y 1).isLt
  have h2 : (y 2 : Nat) < 2816 := (y 2).isLt
  unfold kernelRun0_A.sl.HS1_22
  simp only [List.exists_mem_cons_iff, mem_unit3]
  pointwise
  omega

/-- Loading slot 0 of the gated rows gives the first sub tile's, -/
theorem v261_eq : kernelRun0_A.sl.v261 c arg1 harg1 arg2 harg2 arg3 harg3 arg5 harg5 arg8 arg9 x0 x1 x2 x4
    = fun j => aRow 2 6 7 x0 x1 x2 x4 0 (j 1) (j 2) := by
  unfold kernelRun0_A.sl.v261
  rw [readCov_of_agrees _ (aPieces0 ..)]
  · funext j
    pointwise [aBuf]
  · intro j
    exact aCover0 _ _ _ _ _ _ _ _ _ _ _ _ _ _ _ (by pointwise)

/-- loading slot 1 the second's. -/
theorem v499_eq : kernelRun0_A.sl.v499 c arg1 harg1 arg2 harg2 arg3 harg3 arg5 harg5 arg8 arg9 x0 x1 x2 x4
    = fun j => aRow 2 6 7 x0 x1 x2 x4 1 (j 1) (j 2) := by
  unfold kernelRun0_A.sl.v499
  rw [readCov_of_agrees _ (aPieces1 ..)]
  · funext j
    pointwise [aBuf]
  · intro j
    exact aCover1 _ _ _ _ _ _ _ _ _ _ _ _ _ _ _ (by pointwise)

/-- The first sub tile's store of branch rows. -/
theorem yPieces0 : Agrees (yBuf 2 6 7 x0 x1 x2 x4 x5)
    (kernelRun0_A.sl.HS2_1 c arg1 harg1 arg2 harg2 arg3 harg3 arg5 harg5 arg6 harg6 arg8 arg9 x0 x1 x2 x4 x5) := by
  unfold kernelRun0_A.sl.HS2_1
  refine agrees_cons (fun x => ?_) (agrees_nil _)
  simp only [kernelRun0_A.sl.r_16, kernelRun0_A.sl.r_17, kernelRun0_A.sl.cst_173, View.readAt_eq_ld,
    Memref.IsWhole.read_unread, v261_eq]
  unfold_payloads
  pointwise [yBuf, yRow, times]

/-- Both stores of branch rows. -/
theorem yPieces1 : Agrees (yBuf 2 6 7 x0 x1 x2 x4 x5)
    (kernelRun0_A.sl.HS2_2 c arg1 harg1 arg2 harg2 arg3 harg3 arg5 harg5 arg6 harg6 arg8 arg9 x0 x1 x2 x4 x5) := by
  unfold kernelRun0_A.sl.HS2_2
  refine agrees_cons (fun x => ?_) (yPieces0 ..)
  simp only [View.readAt_eq_ld, Memref.IsWhole.read_unread, v499_eq]
  unfold_payloads
  pointwise [yBuf, yRow, times]

/-- Loading slot 0 of the branch rows gives the first sub tile's, -/
theorem v287_eq : kernelRun0_A.sl.v287 c arg1 harg1 arg2 harg2 arg3 harg3 arg5 harg5 arg6 harg6 arg8 arg9 arg10 x0 x1 x2 x4 x5
    = fun j => yRow 2 6 7 x0 x1 x2 x4 x5 0 (j 1) (j 2) := by
  unfold kernelRun0_A.sl.v287
  rw [readCov_of_agrees _ (yPieces0 ..)]
  · funext j
    pointwise [yBuf]
  · intro j
    unfold kernelRun0_A.sl.HS2_1
    exact cover_head (LoadRect.idx_mem _ j)

/-- loading slot 1 the second's. -/
theorem v506_eq : kernelRun0_A.sl.v506 c arg1 harg1 arg2 harg2 arg3 harg3 arg5 harg5 arg6 harg6 arg8 arg9 arg10 x0 x1 x2 x4 x5
    = fun j => yRow 2 6 7 x0 x1 x2 x4 x5 1 (j 1) (j 2) := by
  unfold kernelRun0_A.sl.v506
  rw [readCov_of_agrees _ (yPieces1 ..)]
  · funext j
    pointwise [yBuf]
  · intro j
    unfold kernelRun0_A.sl.HS2_2
    exact cover_head (LoadRect.idx_mem _ j)

/-- THE BODY'S OUTPUT BLOCK, row by row: the two sub tiles' stores write the residual of the branch rows. -/
theorem out_eq (i : grid0.Coords) (arg7 : Memref sig .tc .vmem S1024x1024 .f32) (harg7 : arg7.IsWhole)
    (harg8 : arg8.IsWhole) (harg9 : arg9.IsWhole) (harg10 : arg10.IsWhole) :
    out0_A_6 c i arg1 harg1 arg2 harg2 arg3 harg3 arg4 harg4 arg5 harg5 arg6 harg6 arg7 harg7 arg8 harg8 arg9 harg9 arg10 harg10
      x0 x1 x2 x3 x4 x5 = fun j => outRow 2 6 7 8 x0 x1 x2 x3 x4 x5 (j 0) (j 1) := by
  unfold out0_A_6
  refine read_writes_of_agrees _ _ ?_ (fun y => cover0_A_6 ..)
  unfold kernelRun0_A
  refine agrees_cons (fun x => ?_) (agrees_cons (fun x => ?_) (agrees_nil _))
  all_goals
    simp only [kernelRun0_A.sl.r_30, kernelRun0_A.sl.r_2, kernelRun0_A.sl.r_18, kernelRun0_A.sl.r_19, kernelRun0_A.sl.r_20,
      View.readAt_eq_ld, Memref.IsWhole.read_unread, v287_eq, v506_eq]
    unfold_payloads
    pointwise [outRow, ffn, halfResidual, normed, invRms, yRow, aRow, hRow, xRow_zero, xRow_one]

end Cert.Ffn2Ideal.Block

end
-- ==== Proof.Ffn2Ref.lean ====
/-
  The last sublayer's reference: its result, row by row, is the row function of the specification.
-/
module

public import proofs.«01_k».proof.Proof.RefTerms

@[expose] public section

noncomputable section

namespace Cert.Ffn2RefIdeal.Read

open Cert.Ffn2RefIdeal Cert.Ffn2RefIdeal.Gen Cert.Rows Cert.RefTerms Idealize.ShloMosaic Idealize.ShloMosaic.TcCoe Idealize.SL.Sem

/-- What the sublayer computes from its six arguments: token `n` of the flat array belongs to batch `n / 4096`. -/
def spec (x : FVec Ideal S16384x1024 .f32) (md : FVec Ideal S4x3x3x1024 .f32) (pre post : FVec Ideal S3x1024 .f32)
    (wGu : FVec Ideal S1024x5632 .bf16) (wDown : FVec Ideal S2816x1024 .bf16) (n : Fin 16384) : Row 1024 :=
  ffn (fun d => x (ix2 n d)) (fun d => pre (ix2 2 d)) (fun d => post (ix2 2 d)) (fun d => md (ix4 ⟨n.val / 4096, by omega⟩ 2 0 d))
    (fun d => md (ix4 ⟨n.val / 4096, by omega⟩ 2 1 d)) (fun d => md (ix4 ⟨n.val / 4096, by omega⟩ 2 2 d))
    (fun i j => wGu (ix2 i j)) (fun i j => wDown (ix2 i j))

/-- The reference's result holds it. -/
theorem res_eq (m : (ℓ : Loc nD τ sig) → Buf (Elt Ideal) ℓ) (c : Dev nD) :
    Value.res_main_v59 m c = fun i : S16384x1024.Idx =>
      spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (i 0) (i 1) := by
  have h : Value.res_main_v59 m c = shapeCast S16384x1024
      (ffnT (shapeCast S4x4096x1024 (m ((c.tc : Thread nD τ).loc main_arg0) : FVec Ideal S16384x1024 .f32) shapeCasts_S16384x1024_S4x4096x1024)
        (extractStridedSlice S4x1x1x1024 ![0, 2, 0, 0] (m ((c.tc : Thread nD τ).loc main_arg1) : FVec Ideal S4x3x3x1024 .f32) slices_S4x3x3x1024_S4x1x1x1024_0_2_0_0)
        (extractStridedSlice S4x1x1x1024 ![0, 2, 1, 0] (m ((c.tc : Thread nD τ).loc main_arg1) : FVec Ideal S4x3x3x1024 .f32) slices_S4x3x3x1024_S4x1x1x1024_0_2_1_0)
        (extractStridedSlice S4x1x1x1024 ![0, 2, 2, 0] (m ((c.tc : Thread nD τ).loc main_arg1) : FVec Ideal S4x3x3x1024 .f32) slices_S4x3x3x1024_S4x1x1x1024_0_2_2_0)
        (extractStridedSlice S1x1024 ![2, 0] (m ((c.tc : Thread nD τ).loc main_arg2) : FVec Ideal S3x1024 .f32) slices_S3x1024_S1x1024_2_0)
        (extractStridedSlice S1x1024 ![2, 0] (m ((c.tc : Thread nD τ).loc main_arg3) : FVec Ideal S3x1024 .f32) slices_S3x1024_S1x1024_2_0)
        (m ((c.tc : Thread nD τ).loc main_arg4)) (m ((c.tc : Thread nD τ).loc main_arg5)))
      shapeCasts_S4x4096x1024_S16384x1024 := rfl
  rw [h]
  generalize m ((c.tc : Thread nD τ).loc main_arg0) = x
  generalize m ((c.tc : Thread nD τ).loc main_arg1) = md
  generalize m ((c.tc : Thread nD τ).loc main_arg2) = pre
  generalize m ((c.tc : Thread nD τ).loc main_arg3) = post
  generalize m ((c.tc : Thread nD τ).loc main_arg4) = wGu
  generalize m ((c.tc : Thread nD τ).loc main_arg5) = wDown
  funext i
  obtain ⟨n, d, rfl⟩ : ∃ (n : Fin 16384) (d : Fin 1024), i = ix2 n d := ⟨i 0, i 1, by pointwise⟩
  rw [flatten_at, ffnT_at, unflatten_at]
  pointwise [spec, token]

end Cert.Ffn2RefIdeal.Read

end
-- ==== Proof.Ffn2.lean ====
/-
  The last sublayer's kernel: the array it leaves holds, row by row, the row function of the specification; and with its
  reference's result the algebraic claim.
-/
module

public import proofs.«01_k».proof.Proof.Ffn2Block
public import proofs.«01_k».proof.Proof.Ffn2Ref

@[expose] public section

noncomputable section

namespace Cert.Ffn2Ideal.Whole

open Cert.Ffn2Ideal Cert.Ffn2Ideal.Gen Cert.Rows Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The host's reshape before the call: the modulation array as nine rows of 1024 per batch. -/
theorem V_mod : V m c main_v0 = shapeCast S4x9x1024 (m ((c : Thread nD τ).loc main_arg1) : FVec Ideal S4x3x3x1024 .f32) shapeCasts_S4x3x3x1024_S4x9x1024 := by
  simp only [V, hostOps0]
  after_results_simp
  rfl

/-- Row `k` of the nine is row `k % 3` of sublayer `k / 3`. -/
theorem nine_at (x : FVec Ideal S4x3x3x1024 .f32) (b : Fin 4) (k : Fin 9) (d : Fin 1024) :
    shapeCast S4x9x1024 x shapeCasts_S4x3x3x1024_S4x9x1024 (ix3 b k d) = x (ix4 b ⟨k.val / 3, by omega⟩ ⟨k.val % 3, by omega⟩ d) := by
  pointwise

/-- The batch's modulation rows as the windows stage them. -/
theorem mod_at (b : Fin 4) (k : Fin 9) (d : Fin 1024) : V m c main_v0 (ix3 b k d)
    = (m ((c : Thread nD τ).loc main_arg1) : FVec Ideal S4x3x3x1024 .f32) (ix4 b ⟨k.val / 3, by omega⟩ ⟨k.val % 3, by omega⟩ d) :=
  (congrFun (V_mod m c) _).trans (nine_at _ b k d)

/-- Window 0 moves down one block of tokens per point. -/
theorem index0 : ∀ t : Fin grid0.N, win0_0.index t = ![t.val, 0] := by decide +kernel
/-- Window 1 stays on a batch for four points. -/
theorem index1 : ∀ t : Fin grid0.N, win0_1.index t = ![t.val / 4, 0, 0] := by decide +kernel
/-- The whole array at every point. -/
theorem index2 : ∀ t : Fin grid0.N, win0_2.index t = ![0, 0] := by decide +kernel

/-- The grid has sixteen points. -/
theorem hN : t.val < 16 := N_0 ▸ t.isLt

/-- The block of tokens at an index. -/
theorem blk0 (r d : Fin 1024) : iblk m c 0 t (ix2 r d) = (m ((c : Thread nD τ).loc main_arg0) : FVec Ideal S16384x1024 .f32)
    (ix2 ⟨1024 * t.val + r.val, by have := hN t; omega⟩ d) := by
  show V m c main_arg0 ((win0_0.rect t).emb (ix2 r d)) = _
  rw [V_main_arg0]
  congr 1
  funext a
  refine Fin.ext ((win0_0.rect_emb_val t _ a).trans ?_)
  rw [index0]
  match a with
  | ⟨0, _⟩ => show t.val * 1024 + r.val = 1024 * t.val + r.val; omega
  | ⟨1, _⟩ => show 0 * 1024 + d.val = d.val; omega

/-- The block of modulation rows at an index: the batch of point `t` is `t / 4`. -/
theorem blk1 (k : Fin 9) (d : Fin 1024) : iblk m c 1 t (ix3 0 k d) = (m ((c : Thread nD τ).loc main_arg1) : FVec Ideal S4x3x3x1024 .f32)
    (ix4 ⟨t.val / 4, by have := hN t; omega⟩ ⟨k.val / 3, by omega⟩ ⟨k.val % 3, by omega⟩ d) := by
  refine Eq.trans ?_ (mod_at m c ⟨t.val / 4, by have := hN t; omega⟩ k d)
  show V m c main_v0 ((win0_1.rect t).emb (ix3 0 k d)) = _
  congr 1
  funext a
  refine Fin.ext ((win0_1.rect_emb_val t _ a).trans ?_)
  rw [index1]
  match a with
  | ⟨0, _⟩ => show t.val / 4 * 1 + 0 = t.val / 4; omega
  | ⟨1, _⟩ => show 0 * 9 + k.val = k.val; omega
  | ⟨2, _⟩ => show 0 * 1024 + d.val = d.val; omega

/-- The input gains, whole. -/
theorem blk2 : iblk m c 2 t = (m ((c : Thread nD τ).loc main_arg2) : FVec Ideal S3x1024 .f32) := by
  funext i
  show V m c main_arg2 ((win0_2.rect t).emb i) = _
  rw [V_main_arg2]
  congr 1
  funext a
  exact Fin.ext (win0_2.rect_emb_val_of_index_zero t a (by rw [index2]; match a with | ⟨0, _⟩ => rfl | ⟨1, _⟩ => rfl) i)

/-- The whole array at every point. -/
theorem index3 : ∀ t : Fin grid0.N, win0_3.index t = ![0, 0] := by decide +kernel
/-- The whole array at every point. -/
theorem index4 : ∀ t : Fin grid0.N, win0_4.index t = ![0, 0] := by decide +kernel
/-- The whole array at every point. -/
theorem index5 : ∀ t : Fin grid0.N, win0_5.index t = ![0, 0] := by decide +kernel
/-- The output moves down one block of tokens per point. -/
theorem index6 : ∀ t : Fin grid0.N, win0_6.index t = ![t.val, 0] := by decide +kernel

/-- The output gains, whole. -/
theorem blk3 : iblk m c 3 t = (m ((c : Thread nD τ).loc main_arg3) : FVec Ideal S3x1024 .f32) := by
  funext i
  show V m c main_arg3 ((win0_3.rect t).emb i) = _
  rw [V_main_arg3]
  congr 1
  funext a
  exact Fin.ext (win0_3.rect_emb_val_of_index_zero t a (by rw [index3]; match a with | ⟨0, _⟩ => rfl | ⟨1, _⟩ => rfl) i)

/-- The gate-and-up weights, whole. -/
theorem blk4 : iblk m c 4 t = (m ((c : Thread nD τ).loc main_arg4) : FVec Ideal S1024x5632 .bf16) := by
  funext i
  show V m c main_arg4 ((win0_4.rect t).emb i) = _
  rw [V_main_arg4]
  congr 1
  funext a
  exact Fin.ext (win0_4.rect_emb_val_of_index_zero t a (by rw [index4]; match a with | ⟨0, _⟩ => rfl | ⟨1, _⟩ => rfl) i)

/-- The down weights, whole. -/
theorem blk5 : iblk m c 5 t = (m ((c : Thread nD τ).loc main_arg5) : FVec Ideal S2816x1024 .bf16) := by
  funext i
  show V m c main_arg5 ((win0_5.rect t).emb i) = _
  rw [V_main_arg5]
  congr 1
  funext a
  exact Fin.ext (win0_5.rect_emb_val_of_index_zero t a (by rw [index5]; match a with | ⟨0, _⟩ => rfl | ⟨1, _⟩ => rfl) i)

/-- The array the kernel is to leave: the specification's rows of the arguments. -/
def result : FVec Ideal S16384x1024 .f32 := fun i =>
  Cert.Ffn2RefIdeal.Read.spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (i 0) (i 1)

/-- Where row `r` of point `t`'s output block lies in the array. -/
theorem emb6 (r d : Fin 1024) : (win0_6.rect t).emb (ix2 r d) = ix2 ⟨1024 * t.val + r.val, by have := hN t; omega⟩ d := by
  funext a
  refine Fin.ext ((win0_6.rect_emb_val t _ a).trans ?_)
  rw [index6]
  match a with
  | ⟨0, _⟩ => show t.val * 1024 + r.val = 1024 * t.val + r.val; omega
  | ⟨1, _⟩ => show 0 * 1024 + d.val = d.val; omega

/-- What point `t` writes back is its block of `result`. -/
theorem flushed_eq : (dats m 0 c).flushed 6 t = (win0_6.blk t).view.read (Elt Ideal) (result m c) := by
  rw [Value.flushed6_A, Block.out_eq]
  funext y
  obtain ⟨r, d, rfl⟩ : ∃ (r d : Fin 1024), y = ix2 r d := ⟨y 0, y 1, by pointwise⟩
  show FfnRows.outRow 2 6 7 8 _ _ _ _ _ _ r d = result m c ((win0_6.rect t).emb (ix2 r d))
  rw [emb6]
  unfold FfnRows.outRow result Cert.Ffn2RefIdeal.Read.spec
  rw [blk2, blk3, blk4, blk5]
  simp only [blk0, blk1]
  have hb : (⟨(1024 * t.val + r.val) / 4096, by have := hN t; omega⟩ : Fin 4) = ⟨t.val / 4, by have := hN t; omega⟩ :=
    Fin.ext (by simp only; omega)
  pointwise [hb]

/-- The output's blocks tile its array. -/
theorem cover (i : S16384x1024.Idx) : ∃ t : Fin cfg0.N, (cfg0.win 6).flush t = true ∧ i ∈ ((cfg0.win 6).blk t).view.set := by
  have h0 : (i 0 : Nat) < 16384 := (i 0).isLt
  have hN : cfg0.N = 16 := N_0
  have ht : (i 0 : Nat) / 1024 < cfg0.N := by omega
  refine ⟨⟨(i 0 : Nat) / 1024, ht⟩, flush0_6 _, ?_⟩
  have h1 : (i 1 : Nat) < 1024 := (i 1).isLt
  have e : (win0_6.rect ⟨(i 0 : Nat) / 1024, ht⟩).emb (ix2 (⟨(i 0 : Nat) % 1024, by omega⟩ : Fin 1024) (⟨(i 1 : Nat), h1⟩ : Fin 1024)) = i := by
    rw [emb6]
    funext a
    match a with
    | ⟨0, _⟩ => exact Fin.ext (by show 1024 * ((i 0 : Nat) / 1024) + (i 0 : Nat) % 1024 = (i 0 : Nat); omega)
    | ⟨1, _⟩ => rfl
  have h := View.emb_mem_set (v := ((cfg0.win 6).blk ⟨(i 0 : Nat) / 1024, ht⟩).view) (ix2 (⟨(i 0 : Nat) % 1024, by omega⟩ : Fin 1024) (⟨(i 1 : Nat), h1⟩ : Fin 1024))
  exact (congrArg (· ∈ ((cfg0.win 6).blk ⟨(i 0 : Nat) / 1024, ht⟩).view.set) e).mp h

/-- The array after the run. -/
theorem final : (dats m 0 c).arrAt 6 cfg0.N = result m c :=
  (dats m 0 c).arrAt_eq_of_cover 6 (result m c) (fun t _ => flushed_eq m c t) cover

end Cert.Ffn2Ideal.Whole

end
-- ==== Proof.Ffn2Claims.lean ====
/-
  The claims of the last sublayer.
-/
module

public import proofs.«01_k».proof.Defs
public import proofs.«01_k».proof.Proof.Ffn2
public import proofs.«01_k».proof.Proof.Gen.Ffn2.Frame
public import Idealize.ShloMosaic.Lib.Quiescent

@[expose] public section

noncomputable section

namespace Cert.Proof

open Idealize.ShloMosaic Idealize.ShloMosaic.TcCoe Idealize.SL.Sem

/-- The kernel's and the reference's results are the same rows of the same arguments. -/
theorem ffn2_algebraic : Cert.algebraic_Ffn2Ideal_Ffn2RefIdeal := fun m ρ m' ρ' _ hag =>
  ⟨fun c => Cert.Ffn2Ideal.Whole.result m c,
    (θ_run _ _ _).mono (fun _ h c => ⟨(h c).1.trans (Cert.Ffn2Ideal.Whole.final m c), (h c).2⟩) (Cert.Ffn2Ideal.Value.run_blocks (F := Ideal) m ρ),
    (θ_run _ _ _).mono (fun _ h c => ⟨(h c).1.trans (by
      obtain ⟨h0, h1, h2, h3, h4, h5⟩ := hag c
      rw [Cert.Ffn2RefIdeal.Read.res_eq, h0, h1, h2, h3, h4, h5]
      rfl), (h c).2⟩) (Cert.Ffn2RefIdeal.Value.run (F := Ideal) m' ρ')⟩

/-- The reference's run leaves its arguments as they were. -/
theorem ffn2_ref_frame : Cert.quiescent_Ffn2RefIdeal := fun m ρ _ =>
  (θ_run _ _ _).mono (fun r h => ⟨fun c => (h c).2, sem_eq_zero_of_no_sems rfl r.2⟩) (Cert.Ffn2RefIdeal.Value.run (F := Ideal) m ρ)

end Cert.Proof

end
-- ==== Proof.BiasWords.lean ====
/-
  The words behind the table of relative positions: the clipped distance, the chunk of a position, and the sum against a
  column of zeros with a single one.
-/
module

public import Idealize.ShloMosaic.Lib.Pipeline.Value
public import Idealize.ShloMosaic.Lib.Pointwise
public import Idealize.ShloMosaic.Lib.KernelVsHost

@[expose] public section

noncomputable section

namespace Cert.BiasWords

open Idealize.ShloMosaic

/-- The entry of the profile that lane `n` holds: the distance `n − 255`, clipped to ±128 and shifted to start at zero. -/
abbrev place (n : ℕ) : ℕ := min 256 (n - 127)

/-- The word for it, from a lane's word. -/
theorem lane_word : ∀ n : Fin 1024, IntOp.addi (IntOp.minsi (128#32) (IntOp.maxsi (4294967168#32) (IntOp.subi (BitVec.ofNat 32 n.val) 255#32))) 128#32
    = BitVec.ofNat 32 (place n.val) := by decide +kernel

/-- The reference's distance of position `r` to key `k` is lane `r + 767 − k`'s. -/
theorem distance_word (k : Fin 768) (r : Fin 256) : IntOp.addi (IntOp.subi (BitVec.ofNat 32 r.val) (BitVec.ofNat 32 k.val)) 512#32
    = IntOp.subi (BitVec.ofNat 32 (r.val + 767 - k.val)) 255#32 := by
  have hk := k.isLt
  have hr := r.isLt
  refine BitVec.eq_of_toNat_eq ?_
  simp only [IntOp.addi, IntOp.subi, BitVec.toNat_add, BitVec.toNat_sub, BitVec.toNat_ofNat]
  omega

/-- The index is never negative, so the wrapped index is the index. -/
theorem wrapped : ∀ n : Fin 1024, Scalar.select (IntOp.cmpi CmpIPredicate.slt (BitVec.ofNat 32 (place n.val)) 0#32)
    (IntOp.addi (BitVec.ofNat 32 (place n.val)) 257#32) (BitVec.ofNat 32 (place n.val)) = BitVec.ofNat 32 (place n.val) := by decide +kernel

/-- Read as a start index it is the entry itself. -/
theorem start_word : ∀ n : Fin 1024, min (BitVec.ofNat 32 (place n.val)).toInt.toNat 256 = place n.val := by decide +kernel

/-- The chunk of a position, as the kernel divides. -/
theorem chunk_kernel : ∀ n : Fin 768, Scalar.select
    (IntOp.andi
      (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 n.val) 64#32) 0#32))
    (IntOp.subi (IntOp.divsi ArithUnit.vector (BitVec.ofNat 32 n.val) 64#32) 1#32)
    (IntOp.divsi ArithUnit.vector (BitVec.ofNat 32 n.val) 64#32) = BitVec.ofNat 32 (n.val / 64) := by decide +kernel

/-- The chunk of a position, as the host divides. -/
def hostChunk (n : ℕ) : BitVec 32 := Scalar.select
    (IntOp.andi
      (IntOp.cmpi (w := 32) CmpIPredicate.ne
        (if BitVec.ofNat 32 n = 0 then 0 else if (BitVec.ofNat 32 n).msb = true then -1 else 1)
        (if 64#32 = 0 then 0 else if (64#32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

/-- Its word. -/
theorem chunk_host : ∀ n : Fin 768, hostChunk n.val = BitVec.ofNat 32 (n.val / 64) := by decide +kernel

/-- What is added to the table at key `k` and position `r`: nothing where the key's chunk is the position's or one of the eight
    after it, the mask's value elsewhere. -/
def band (k : Fin 768) (r : Fin 256) : EReal :=
  Scalar.select (IntOp.andi (IntOp.cmpi CmpIPredicate.sge (BitVec.ofNat 32 (k.val / 64)) (BitVec.ofNat 32 (r.val / 64)))
    (IntOp.cmpi CmpIPredicate.sle (BitVec.ofNat 32 (k.val / 64)) (IntOp.addi (BitVec.ofNat 32 (r.val / 64)) 8#32)))
    0 (Ideal.ofBits FTy.f32 4048155338#32)

/-- One entry of the table: head `h`'s profile at the clipped distance, in base-2 logarithms, and the band. -/
def entry (x : FVec Ideal ⟨3, ![1, 8, 257]⟩ .f32) (h : Fin 8) (k : Fin 768) (r : Fin 256) : EReal :=
  x (ix3 0 h ⟨place (r.val + 767 - k.val), lt_of_le_of_lt (min_le_left _ _) (by decide)⟩) * Ideal.ofBits FTy.f32 1069066811#32 + band k r

/-- A sum against a one at `p` and zeros elsewhere is the term at `p`. -/
theorem sum_pick (f : Fin 384 → EReal) (p : ℕ) (hp : p < 384) :
    (∑ d : Fin 384, Scalar.select (IntOp.cmpi CmpIPredicate.eq (BitVec.ofNat 32 d.val) (BitVec.ofNat 32 p)) (f d) 0) = f ⟨p, hp⟩ := by
  rw [Finset.sum_eq_single_of_mem (⟨p, hp⟩ : Fin 384) (Finset.mem_univ _)]
  · simp [Scalar.select, IntOp.cmpi]
  · intro d _ hd
    have hne : BitVec.ofNat 32 d.val ≠ BitVec.ofNat 32 p := fun e => hd (Fin.ext (by
      have := congrArg BitVec.toNat e
      simp only [BitVec.toNat_ofNat] at this
      have := d.isLt
      show d.val = p
      omega))
    simp [Scalar.select, IntOp.cmpi, beq_eq_false_iff_ne.mpr hne]

/-- Below infinity the three parts of a number add up to it again. -/
theorem parts (a : EReal) (h : a < ⊤) : a - a - (a - a) + (a - a) + a = a := by
  induction a with
  | bot => rfl
  | top => exact absurd h (lt_irrefl _)
  | coe a => norm_cast; simp

/-- At infinity they do not, which is why the claim asks for less. -/
theorem parts_top : (⊤ : EReal) - ⊤ - (⊤ - ⊤) + (⊤ - ⊤) + ⊤ = ⊥ := rfl

end Cert.BiasWords

end
-- ==== Proof.BiasTable.lean ====
/-
  The relative-position table's kernel: from the biases padded to 384 columns it leaves, for every head, key and position, the
  profile at the clipped distance plus the band.
-/
module

public import proofs.«01_k».proof.Proof.BiasWords
public import proofs.«01_k».proof.Proof.Pieces
public import proofs.«01_k».proof.Proof.Gen.BiasIdeal.Value

@[expose] public section

noncomputable section

namespace Cert.BiasIdeal.Table

open Cert.BiasIdeal Cert.BiasIdeal.Gen Cert.BiasWords Cert.Pieces Idealize.ShloMosaic Idealize.ShloMosaic.TcCoe Idealize.SL.Sem

/-- The profile of one head: the padded bias at the lane's entry, in base-2 logarithms. -/
theorem profile_at (x : Vec Ideal S8x384 .f32) (b : FVec Ideal S1x8x257 .f32)
    (hxb : ∀ (h : Fin 8) (d : Fin 257), x (ix2 h ⟨d.val, by omega⟩) = b (ix3 0 h d)) (hb : ∀ i, b i < (⊤ : EReal)) (h : Fin 8) (n : Fin 1024) :
    k0_pay15 x (ix2 h n) = b (ix3 0 h ⟨place n.val, lt_of_le_of_lt (min_le_left _ _) (by decide)⟩) * Ideal.ofBits FTy.f32 1069066811#32 := by
  have hp : place n.val < 384 := lt_of_le_of_lt (min_le_left _ _) (by decide)
  unfold k0_pay15 k0_pay5
  pointwise []
  rw [lane_word n]
  simp only [sum_pick _ _ hp]
  have e : x (ix2 h ⟨place n.val, hp⟩) = b (ix3 0 h ⟨place n.val, lt_of_le_of_lt (min_le_left _ _) (by decide)⟩) := hxb h ⟨place n.val, _⟩
  rw [e]
  exact congrArg (· * _) (parts _ (hb _))

/-- The band. -/
theorem band_eq (x : Vec Ideal S8x384 .f32) (k : Fin 768) (r : Fin 256) : k0_pay16 x (ix2 k r) = band k r := by
  unfold k0_pay16 k0_pay8 k0_pay7 k0_pay6
  pointwise []
  rw [chunk_kernel k, chunk_kernel ⟨r.val, by have := r.isLt; omega⟩]
  rfl

/-- Where the rotation of key `k`'s row takes position `r` from. -/
theorem rotated (k : Fin 768) (r : Fin 256) : (r.val + 1024 - (257 + k.val) % 1024) % 1024 = r.val + 767 - k.val := by
  have := k.isLt
  have := r.isLt
  omega

variable (x : Vec Ideal S8x384 .f32)

/-- What the body leaves. -/
def table : Vec Ideal S8x768x256 .f32 := fun i =>
  k0_pay15 x (ix2 (i 0) ⟨(i 2).val + 767 - (i 1).val, by have h : (i 2).val < 256 := (i 2).isLt; omega⟩) + k0_pay16 x (ix2 (i 1) (i 2))

/-- An index of one head's share is a key and a position. -/
theorem share_index (y : S1x768x256.Idx) : ∃ (k : Fin 768) (r : Fin 256), y = ix3 (0 : Fin 1) k r := by
  refine ⟨y 1, y 2, funext fun a => ?_⟩
  match a with
  | ⟨0, _⟩ => exact Subsingleton.elim (α := Fin 1) _ _
  | ⟨1, _⟩ => rfl
  | ⟨2, _⟩ => rfl

/-- Every store holds its head's share of it. -/
theorem pieces : Agrees (table x)
    [⟨r0_8, k0_pay4 (k0_pay15 x) (k0_pay16 x)⟩, ⟨r0_7, k0_pay3 (k0_pay15 x) (k0_pay16 x)⟩,
     ⟨r0_6, k0_pay2 (k0_pay15 x) (k0_pay16 x)⟩, ⟨r0_5, k0_pay1 (k0_pay16 x) (k0_pay14 (k0_pay15 x))⟩,
     ⟨r0_4, k0_pay13 (k0_pay15 x) (k0_pay16 x)⟩, ⟨r0_3, k0_pay12 (k0_pay15 x) (k0_pay16 x)⟩,
     ⟨r0_2, k0_pay11 (k0_pay15 x) (k0_pay16 x)⟩, ⟨r0_1, k0_pay10 (k0_pay16 x) (k0_pay9 (k0_pay15 x))⟩] := by
  refine agrees_cons (fun y => ?_) (agrees_cons (fun y => ?_) (agrees_cons (fun y => ?_) (agrees_cons (fun y => ?_)
    (agrees_cons (fun y => ?_) (agrees_cons (fun y => ?_) (agrees_cons (fun y => ?_) (agrees_cons (fun y => ?_) (agrees_nil _))))))))
  all_goals
    obtain ⟨k, r, rfl⟩ := share_index y
    simp only [table, k0_pay4, k0_pay3, k0_pay2, k0_pay1, k0_pay14, k0_pay13, k0_pay12, k0_pay11, k0_pay10, k0_pay9]
    pointwise [rotated]

/-- The block after the body. -/
theorem out_eq : out0_1 x = table x := by
  unfold out0_1
  exact funext fun y => View.canon_apply_of_pieces _ _ (pieces x).of_mem y (cover0_1 _ _ _ _ _ _ _ _ y)

/-! ## The host's padding and the array after the run -/

variable (m : (ℓ : Loc nD τ sig) → Buf (Elt Ideal) ℓ) (c : Dev nD) (t : Fin cfg0.N)

/-- The biases the host pads with zeros to 384 columns. -/
theorem V_padded : V m c main_v1 = pad S8x384 ![0, 0] ![0, 127] ![0, 0]
    (shapeCast S8x257 (m ((c : Thread nD τ).loc main_arg0) : FVec Ideal S1x8x257 .f32) shapeCasts_S1x8x257_S8x257)
    (sitofp .f32 (constantI S_ 32 0#32) : FVec Ideal S_ .f32) pads_S8x257_S8x384_000_01270 h_S_ := by
  simp only [V, hostOps0, hostOps0_1, List.flatten_cons, List.flatten_nil, List.append_nil, List.cons_append, List.nil_append, StableHlo.TRef.unary, StableHlo.TRef.binary, StableHlo.TRef.toBuf, StableHlo.TRef.ofBuf, cast_eq]
  after_results_simp
  rfl

/-- The leading unit axis dropped. -/
theorem cast_at (b : FVec Ideal S1x8x257 .f32) (h : Fin 8) (d : Fin 257) : shapeCast S8x257 b shapeCasts_S1x8x257_S8x257 (ix2 h d) = b (ix3 0 h d) := by
  pointwise

/-- A bias in its place. -/
theorem padded_at (h : Fin 8) (d : Fin 257) : (V m c main_v1 : FVec Ideal S8x384 .f32) (ix2 h ⟨d.val, by omega⟩)
    = (m ((c : Thread nD τ).loc main_arg0) : FVec Ideal S1x8x257 .f32) (ix3 0 h d) := by
  rw [V_padded]
  refine (pad_apply_of_inside _ _ _ _ _ _ _ _ (ix2 h d) fun a => ?_).trans ?_
  · match a with
    | ⟨0, _⟩ => show h.val = 0 + h.val * (0 + 1); omega
    | ⟨1, _⟩ => show d.val = 0 + d.val * (0 + 1); omega
  · exact cast_at _ h d

/-- The block is the whole padded array. -/
theorem index0 : ∀ t : Fin grid0.N, win0_0.index t = ![0, 0] := by decide +kernel
/-- Read at an index. -/
theorem blk0 : iblk m c 0 t = (V m c main_v1 : FVec Ideal S8x384 .f32) := by
  funext i
  show V m c main_v1 ((win0_0.rect t).emb i) = _
  congr 1
  funext a
  exact Fin.ext (win0_0.rect_emb_val_of_index_zero t a (by rw [index0]; match a with | ⟨0, _⟩ => rfl | ⟨1, _⟩ => rfl) i)

/-- So is the output's. -/
theorem index1 : ∀ t : Fin grid0.N, win0_1.index t = ![0, 0, 0] := by decide +kernel
/-- An index of the block is that index of the array. -/
theorem emb1 (i : S8x768x256.Idx) : (win0_1.rect t).emb i = i := by
  funext a
  exact Fin.ext (win0_1.rect_emb_val_of_index_zero t a (by rw [index1]; match a with | ⟨0, _⟩ => rfl | ⟨1, _⟩ => rfl | ⟨2, _⟩ => rfl) i)

/-- There is one point. -/
theorem point : 0 < cfg0.N := by
  show 0 < grid0.N
  rw [N_0]
  decide

/-- The array the kernel is to leave. -/
def result : FVec Ideal S8x768x256 .f32 := fun i =>
  entry (m ((c.tc : Thread nD τ).loc main_arg0)) (i 0) (i 1) (i 2)

/-- The array after the run, the biases all below infinity. -/
theorem final (hx : ∀ i : S1x8x257.Idx, @LT.lt EReal _ ((m ((c.tc : Thread nD τ).loc main_arg0) : FVec Ideal S1x8x257 .f32) i) ⊤) :
    (dats m 0 c).arrAt 1 cfg0.N = result m c :=
  (dats m 0 c).arrAt_eq_of_cover 1 (result m c)
    (fun t _ => by
      rw [Value.flushed1, out_eq]
      funext y
      show table (iblk m c 0 t) y = result m c ((win0_1.rect t).emb y)
      rw [emb1, blk0]
      have hy : (y 2).val + 767 - (y 1).val < 1024 := by have h : (y 2).val < 256 := (y 2).isLt; omega
      refine (congrArg₂ (· + ·) (profile_at (V m c main_v1) (m ((c.tc : Thread nD τ).loc main_arg0)) (padded_at m c) hx (y 0) ⟨_, hy⟩)
        (band_eq (V m c main_v1) (y 1) (y 2))).trans ?_
      rfl)
    (fun i => ⟨⟨0, point⟩, flush0_1 _, by
      have h := View.emb_mem_set (v := ((cfg0.win 1).blk ⟨0, point⟩).view) i
      exact (emb1 ⟨0, point⟩ i) ▸ h⟩)

end Cert.BiasIdeal.Table

end
-- ==== Proof.BiasRef.lean ====
/-
  The relative-position table's reference, read at an index: the gather of the biases at the clipped distance, and the band.
-/
module

public import proofs.«01_k».proof.Proof.BiasWords
public import proofs.«01_k».proof.Proof.Gen.BiasRefIdeal.Run

@[expose] public section

set_option maxRecDepth 8192

noncomputable section

namespace Cert.BiasRefIdeal.Read

open Cert.BiasRefIdeal Cert.BiasRefIdeal.Gen Cert.BiasRefIdeal.Value Cert.BiasWords Idealize.ShloMosaic Idealize.ShloMosaic.TcCoe Idealize.SL.Sem

/-- The start indices of the gather. -/
def starts : IVec S768x256x1 32 := (broadcastInDim S768x256x1 ![0, 1] bcast_S768x256_S768x256x1_0_1 (select (cmpi .slt (addi (minsi (broadcastInDim S768x256 ![] bcast_S_S768x256 (id (constantI S_ 32 128#32))) (maxsi (broadcastInDim S768x256 ![] bcast_S_S768x256 (id (constantI S_ 32 4294967168#32))) (addi (subi (broadcastInDim S768x256 ![0, 1] bcast_S1x256_S768x256_0_1 (broadcastInDim S1x256 ![1] bcast_S256_S1x256_1 (iotaInDim S256 32 0))) (broadcastInDim S768x256 ![0, 1] bcast_S768x1_S768x256_0_1 (broadcastInDim S768x1 ![0] bcast_S768_S768x1_0 (iotaInDim S768 32 0)))) (broadcastInDim S768x256 ![] bcast_S_S768x256 (constantI S_ 32 512#32))))) (broadcastInDim S768x256 ![] bcast_S_S768x256 (constantI S_ 32 128#32))) (broadcastInDim S768x256 ![] bcast_S_S768x256 (constantI S_ 32 0#32))) (addi (addi (minsi (broadcastInDim S768x256 ![] bcast_S_S768x256 (id (constantI S_ 32 128#32))) (maxsi (broadcastInDim S768x256 ![] bcast_S_S768x256 (id (constantI S_ 32 4294967168#32))) (addi (subi (broadcastInDim S768x256 ![0, 1] bcast_S1x256_S768x256_0_1 (broadcastInDim S1x256 ![1] bcast_S256_S1x256_1 (iotaInDim S256 32 0))) (broadcastInDim S768x256 ![0, 1] bcast_S768x1_S768x256_0_1 (broadcastInDim S768x1 ![0] bcast_S768_S768x1_0 (iotaInDim S768 32 0)))) (broadcastInDim S768x256 ![] bcast_S_S768x256 (constantI S_ 32 512#32))))) (broadcastInDim S768x256 ![] bcast_S_S768x256 (constantI S_ 32 128#32))) (broadcastInDim S768x256 ![] bcast_S_S768x256 (constantI S_ 32 257#32))) (addi (minsi (broadcastInDim S768x256 ![] bcast_S_S768x256 (id (constantI S_ 32 128#32))) (maxsi (broadcastInDim S768x256 ![] bcast_S_S768x256 (id (constantI S_ 32 4294967168#32))) (addi (subi (broadcastInDim S768x256 ![0, 1] bcast_S1x256_S768x256_0_1 (broadcastInDim S1x256 ![1] bcast_S256_S1x256_1 (iotaInDim S256 32 0))) (broadcastInDim S768x256 ![0, 1] bcast_S768x1_S768x256_0_1 (broadcastInDim S768x1 ![0] bcast_S768_S768x1_0 (iotaInDim S768 32 0)))) (broadcastInDim S768x256 ![] bcast_S_S768x256 (constantI S_ 32 512#32))))) (broadcastInDim S768x256 ![] bcast_S_S768x256 (constantI S_ 32 128#32)))))

/-- The word at key `k` and position `r`. -/
theorem starts_at (k : Fin 768) (r : Fin 256) : starts (ix3 k r 0) = BitVec.ofNat 32 (place (r.val + 767 - k.val)) := by
  have hn : r.val + 767 - k.val < 1024 := by omega
  unfold starts
  pointwise [id_eq]
  rw [distance_word, lane_word ⟨_, hn⟩]
  exact wrapped ⟨_, hn⟩

/-- What is added outside the band. -/
def bandTerm : FVec Ideal S768x256 .f32 := (id (select (andi (cmpi .sge (broadcastInDim S768x256 ![0, 1] bcast_S768x1_S768x256_0_1 (select (andi (cmpi .ne (signi (broadcastInDim S768x1 ![0] bcast_S768_S768x1_0 (iotaInDim S768 32 0))) (broadcastInDim S768x1 ![] bcast_S_S768x1 (signi (id (constantI S_ 32 64#32))))) (cmpi .ne (Host.remsi (broadcastInDim S768x1 ![0] bcast_S768_S768x1_0 (iotaInDim S768 32 0)) (broadcastInDim S768x1 ![] bcast_S_S768x1 (id (constantI S_ 32 64#32)))) (broadcastInDim S768x1 ![] bcast_S_S768x1 (constantI S_ 32 0#32)))) (subi (Host.divsi (broadcastInDim S768x1 ![0] bcast_S768_S768x1_0 (iotaInDim S768 32 0)) (broadcastInDim S768x1 ![] bcast_S_S768x1 (id (constantI S_ 32 64#32)))) (broadcastInDim S768x1 ![] bcast_S_S768x1 (constantI S_ 32 1#32))) (Host.divsi (broadcastInDim S768x1 ![0] bcast_S768_S768x1_0 (iotaInDim S768 32 0)) (broadcastInDim S768x1 ![] bcast_S_S768x1 (id (constantI S_ 32 64#32)))))) (broadcastInDim S768x256 ![0, 1] bcast_S1x256_S768x256_0_1 (select (andi (cmpi .ne (signi (broadcastInDim S1x256 ![1] bcast_S256_S1x256_1 (iotaInDim S256 32 0))) (broadcastInDim S1x256 ![] bcast_S_S1x256 (signi (id (constantI S_ 32 64#32))))) (cmpi .ne (Host.remsi (broadcastInDim S1x256 ![1] bcast_S256_S1x256_1 (iotaInDim S256 32 0)) (broadcastInDim S1x256 ![] bcast_S_S1x256 (id (constantI S_ 32 64#32)))) (broadcastInDim S1x256 ![] bcast_S_S1x256 (constantI S_ 32 0#32)))) (subi (Host.divsi (broadcastInDim S1x256 ![1] bcast_S256_S1x256_1 (iotaInDim S256 32 0)) (broadcastInDim S1x256 ![] bcast_S_S1x256 (id (constantI S_ 32 64#32)))) (broadcastInDim S1x256 ![] bcast_S_S1x256 (constantI S_ 32 1#32))) (Host.divsi (broadcastInDim S1x256 ![1] bcast_S256_S1x256_1 (iotaInDim S256 32 0)) (broadcastInDim S1x256 ![] bcast_S_S1x256 (id (constantI S_ 32 64#32))))))) (cmpi .sle (broadcastInDim S768x256 ![0, 1] bcast_S768x1_S768x256_0_1 (select (andi (cmpi .ne (signi (broadcastInDim S768x1 ![0] bcast_S768_S768x1_0 (iotaInDim S768 32 0))) (broadcastInDim S768x1 ![] bcast_S_S768x1 (signi (id (constantI S_ 32 64#32))))) (cmpi .ne (Host.remsi (broadcastInDim S768x1 ![0] bcast_S768_S768x1_0 (iotaInDim S768 32 0)) (broadcastInDim S768x1 ![] bcast_S_S768x1 (id (constantI S_ 32 64#32)))) (broadcastInDim S768x1 ![] bcast_S_S768x1 (constantI S_ 32 0#32)))) (subi (Host.divsi (broadcastInDim S768x1 ![0] bcast_S768_S768x1_0 (iotaInDim S768 32 0)) (broadcastInDim S768x1 ![] bcast_S_S768x1 (id (constantI S_ 32 64#32)))) (broadcastInDim S768x1 ![] bcast_S_S768x1 (constantI S_ 32 1#32))) (Host.divsi (broadcastInDim S768x1 ![0] bcast_S768_S768x1_0 (iotaInDim S768 32 0)) (broadcastInDim S768x1 ![] bcast_S_S768x1 (id (constantI S_ 32 64#32)))))) (broadcastInDim S768x256 ![0, 1] bcast_S1x256_S768x256_0_1 (addi (select (andi (cmpi .ne (signi (broadcastInDim S1x256 ![1] bcast_S256_S1x256_1 (iotaInDim S256 32 0))) (broadcastInDim S1x256 ![] bcast_S_S1x256 (signi (id (constantI S_ 32 64#32))))) (cmpi .ne (Host.remsi (broadcastInDim S1x256 ![1] bcast_S256_S1x256_1 (iotaInDim S256 32 0)) (broadcastInDim S1x256 ![] bcast_S_S1x256 (id (constantI S_ 32 64#32)))) (broadcastInDim S1x256 ![] bcast_S_S1x256 (constantI S_ 32 0#32)))) (subi (Host.divsi (broadcastInDim S1x256 ![1] bcast_S256_S1x256_1 (iotaInDim S256 32 0)) (broadcastInDim S1x256 ![] bcast_S_S1x256 (id (constantI S_ 32 64#32)))) (broadcastInDim S1x256 ![] bcast_S_S1x256 (constantI S_ 32 1#32))) (Host.divsi (broadcastInDim S1x256 ![1] bcast_S256_S1x256_1 (iotaInDim S256 32 0)) (broadcastInDim S1x256 ![] bcast_S_S1x256 (id (constantI S_ 32 64#32))))) (broadcastInDim S1x256 ![] bcast_S_S1x256 (constantI S_ 32 8#32)))))) (broadcastInDim S768x256 ![] bcast_S_S768x256 (constant S_ .f32 0x00000000#32)) (broadcastInDim S768x256 ![] bcast_S_S768x256 (constant S_ .f32 0xF149F2CA#32))))

/-- It is the band. -/
theorem bandTerm_at (k : Fin 768) (r : Fin 256) : bandTerm (ix2 k r) = band k r := by
  unfold bandTerm
  pointwise [id_eq]
  show Scalar.select (IntOp.andi (IntOp.cmpi CmpIPredicate.sge (hostChunk k.val) (hostChunk r.val))
    (IntOp.cmpi CmpIPredicate.sle (hostChunk k.val) (IntOp.addi (hostChunk r.val) 8#32))) 0 (Ideal.ofBits FTy.f32 4048155338#32) = _
  rw [chunk_host k, chunk_host ⟨r.val, by omega⟩]
  rfl

/-- The gather read at an index: head `h`'s row at the start index, clamped. -/
theorem gather_at (x : FVec Ideal S8x257 .f32) (idx : IVec S768x256x1 32) (h : Fin 8) (k : Fin 768) (r : Fin 256) :
    Host.gather gather_S8x257_S768x256x1_S8x768x256_0_1_n_n_1_2_81 x idx (ix3 h k r)
      = x (ix2 h ⟨min (idx (ix3 k r 0)).toInt.toNat 256, by omega⟩) := by
  unfold Host.gather
  congr 1
  funext a
  refine Fin.ext ?_
  show gather_S8x257_S768x256x1_S8x768x256_0_1_n_n_1_2_81.start (ix3 h k r) idx a
    + gather_S8x257_S768x256x1_S8x768x256_0_1_n_n_1_2_81.batchCoord (ix3 h k r) a
    + gather_S8x257_S768x256x1_S8x768x256_0_1_n_n_1_2_81.offCoord (ix3 h k r) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ gather_S8x257_S768x256x1_S8x768x256_0_1_n_n_1_2_81.startIndexMap from
      fun e => absurd (List.mem_singleton.mp e) (by decide))]
    unfold GatherDims.offCoord
    rw [dif_pos (show (0 : Fin 2) ∈ gather_S8x257_S768x256x1_S8x768x256_0_1_n_n_1_2_81.sKept from by decide)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x257_S768x256x1_S8x768x256_0_1_n_n_1_2_81.startIndexMap from List.mem_singleton.mpr rfl)]
    have hsi : gather_S8x257_S768x256x1_S8x768x256_0_1_n_n_1_2_81.siIdx (ix3 h k r)
        ⟨List.idxOf (1 : Fin 2) gather_S8x257_S768x256x1_S8x768x256_0_1_n_n_1_2_81.startIndexMap,
        List.idxOf_lt_length_iff.2 (List.mem_singleton.mpr rfl)⟩ = ix3 k r 0 := by
      funext b; refine Fin.ext ?_
      match b with
      | ⟨0, _⟩ => rfl
      | ⟨1, _⟩ => rfl
      | ⟨2, _⟩ => rfl
    rw [hsi]
    rfl

variable (m : (ℓ : Loc nD τ sig) → Buf (Elt Ideal) ℓ) (c : Dev nD)

/-- The reference's result at an index. -/
theorem result_at (h : Fin 8) (k : Fin 768) (r : Fin 256) : (res_main_v39 m c : FVec Ideal S8x768x256 .f32) (ix3 h k r)
    = entry (m ((c.tc : Thread nD τ).loc main_arg0)) h k r := by
  have hn : r.val + 767 - k.val < 1024 := by omega
  have e : (res_main_v39 m c : FVec Ideal S8x768x256 .f32) =
      addf (mulf (Host.gather gather_S8x257_S768x256x1_S8x768x256_0_1_n_n_1_2_81
          (shapeCast S8x257 (m ((c.tc : Thread nD τ).loc main_arg0) : FVec Ideal S1x8x257 .f32) shapeCasts_S1x8x257_S8x257) starts)
        (broadcastInDim S8x768x256 ![] bcast_S_S8x768x256 (constant S_ .f32 0x3FB8AA3B#32)))
        (broadcastInDim S8x768x256 ![0, 1, 2] bcast_S1x768x256_S8x768x256_0_1_2 (broadcastInDim S1x768x256 ![1, 2] bcast_S768x256_S1x768x256_1_2 bandTerm)) := rfl
  rw [e]
  generalize hs : starts = w
  generalize hb : bandTerm = b
  pointwise [gather_at]
  subst hs hb
  rw [bandTerm_at]
  unfold entry
  have ew : min (starts (ix3 k r 0)).toInt.toNat 256 = place (r.val + 767 - k.val) := by rw [starts_at]; exact start_word ⟨_, hn⟩
  simp only [ew]

end Cert.BiasRefIdeal.Read

end
-- ==== Proof.BiasClaims.lean ====
/-
  The claims of the table of relative positions.
-/
module

public import proofs.«01_k».proof.Defs
public import proofs.«01_k».proof.Proof.BiasTable
public import proofs.«01_k».proof.Proof.BiasRef
public import proofs.«01_k».proof.Proof.Gen.Bias.Frame
public import proofs.«01_k».proof.Proof.Gen.Pre_below_infinity
public import Idealize.ShloMosaic.Lib.Quiescent

@[expose] public section

noncomputable section

namespace Cert.Proof

open Idealize.ShloMosaic Idealize.ShloMosaic.TcCoe Idealize.SL.Sem Cert.BiasIdeal.Table

/-- The precondition, entry by entry. -/
theorem below_infinity_apply (x : FVec Ideal ⟨3, ![1, 8, 257]⟩ .f32) (h : Cert.Pre_below_infinity.fn (F := Ideal) x = fun _ => 1#1)
    (i : Shape.Idx ⟨3, ![1, 8, 257]⟩) : x i < (⊤ : EReal) := by
  have hi := congrFun h i
  unfold Cert.Pre_below_infinity.fn at hi
  revert hi
  pointwise []
  intro hi
  by_contra hn
  have e : ¬ x i < Ideal.ofBits FTy.f32 2139095040#32 := fun h => hn (lt_of_lt_of_le h le_top)
  rw [decide_eq_false e] at hi
  exact absurd hi (by decide)

/-- The kernel's and the reference's tables are the same function of the same biases. -/
theorem bias_algebraic : Cert.algebraic_BiasIdeal_BiasRefIdeal_pre_below_infinity := fun m ρ m' ρ' hpre hag =>
  ⟨fun c => result m c,
    (θ_run _ _ _).mono (fun _ h c => ⟨(h c).1.trans (final m c (below_infinity_apply _ (hpre c))), (h c).2⟩)
      (Cert.BiasIdeal.Value.run_blocks (F := Ideal) m ρ),
    (θ_run _ _ _).mono (fun _ h c => by
      obtain ⟨e0, rest⟩ := h c
      refine ⟨e0.trans ?_, rest⟩
      funext y
      obtain ⟨h, k, r, rfl⟩ : ∃ (h : Fin 8) (k : Fin 768) (r : Fin 256), y = ix3 h k r := ⟨y 0, y 1, y 2, by
        funext a; match a with | ⟨0, _⟩ => rfl | ⟨1, _⟩ => rfl | ⟨2, _⟩ => rfl⟩
      refine (Cert.BiasRefIdeal.Read.result_at m' c h k r).trans ?_
      rw [hag c]
      rfl) (Cert.BiasRefIdeal.Value.run (F := Ideal) m' ρ')⟩

/-- The reference's run leaves its argument as it was. -/
theorem bias_ref_frame : Cert.quiescent_BiasRefIdeal := fun m ρ _ =>
  (θ_run _ _ _).mono (fun r h => ⟨fun c => (h c).2, sem_eq_zero_of_no_sems rfl r.2⟩) (Cert.BiasRefIdeal.Value.run (F := Ideal) m ρ)

end Cert.Proof

end
-- ==== Proof.lean ====
/-
  The certificate: every program's frame from its run, generated or (the projection's) hand-written, and the value claims from the
  hand-written modules.
-/
module

public import proofs.«01_k».proof.Defs
public import proofs.«01_k».proof.Proof.AdaClaims
public import proofs.«01_k».proof.Proof.Ffn1Claims
public import proofs.«01_k».proof.Proof.ProjClaims
public import proofs.«01_k».proof.Proof.ProjWordFrame
public import proofs.«01_k».proof.Proof.MixClaims
public import proofs.«01_k».proof.Proof.Ffn2Claims
public import proofs.«01_k».proof.Proof.BiasClaims
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Ada.Gen.facts, Cert.AdaIdeal.Gen.facts, Cert.AdaRefIdeal.Gen.facts,
    Cert.Ffn1.Gen.facts, Cert.Ffn1Ideal.Gen.facts, Cert.Ffn1RefIdeal.Gen.facts,
    Cert.Proj.Gen.facts, Cert.ProjIdeal.Gen.facts, Cert.ProjRefIdeal.Gen.facts,
    Cert.Mix.Gen.facts, Cert.MixIdeal.Gen.facts, Cert.MixRefIdeal.Gen.facts,
    Cert.Ffn2.Gen.facts, Cert.Ffn2Ideal.Gen.facts, Cert.Ffn2RefIdeal.Gen.facts,
    Cert.Bias.Gen.facts, Cert.BiasIdeal.Gen.facts, Cert.BiasRefIdeal.Gen.facts, Cert.Pre_below_infinity.Gen.facts,
    fun m ρ _ => Cert.Ada.Gen.frame m ρ, fun m ρ _ => Cert.AdaIdeal.Gen.frame m ρ, ada_ref_frame,
    fun m ρ _ => Cert.Ffn1.Gen.frame m ρ, fun m ρ _ => Cert.Ffn1Ideal.Gen.frame m ρ, ffn1_ref_frame,
    fun m ρ _ => Cert.Proj.Hand.frame m ρ, fun m ρ _ => Cert.ProjIdeal.Hand.frame m ρ, proj_ref_frame,
    fun m ρ _ => Cert.Mix.Gen.frame m ρ, fun m ρ _ => Cert.MixIdeal.Gen.frame m ρ, mix_ref_frame,
    fun m ρ _ => Cert.Ffn2.Gen.frame m ρ, fun m ρ _ => Cert.Ffn2Ideal.Gen.frame m ρ, ffn2_ref_frame,
    fun m ρ _ => Cert.Bias.Gen.frame m ρ, fun m ρ _ => Cert.BiasIdeal.Gen.frame m ρ, fun m ρ _ => Cert.BiasIdeal.Gen.frame m ρ,
    bias_ref_frame, fun m ρ _ => bias_ref_frame m ρ trivial,
    trivial, ada_algebraic, trivial, ffn1_algebraic, trivial, proj_algebraic, trivial, mix_algebraic, trivial, ffn2_algebraic,
    trivial, bias_algebraic⟩

end Cert.Proof

end
